-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![1024, 1024]⟩ ⟨2, ![2048, 1024]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S1024x1024 : Shape := ⟨2, ![1024, 1024]⟩
abbrev S512x1024 : Shape := ⟨2, ![512, 1024]⟩
abbrev S_ : Shape := ⟨0, ![]⟩
abbrev S8 : Shape := ⟨1, ![8]⟩
abbrev S64x1024 : Shape := ⟨2, ![64, 1024]⟩
abbrev S1 : Shape := ⟨1, ![1]⟩
abbrev S64 : Shape := ⟨1, ![64]⟩
abbrev S64x1 : Shape := ⟨2, ![64, 1]⟩

abbrev nBuf : Space → Nat
  | .hbm => 5
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S1024x1024, .f32⟩
  | .local _ .vmem, ⟨0, _⟩ => ⟨S1x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_3 : BitVec 32 := 1024#32
  let v10 : BitVec 32 := Scalar.muli v5 c1024_i32_3
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_4 : BitVec 32 := 512#32
  let v11 : BitVec 32 := Scalar.muli v2 c512_i32_4
  let v12 : BitVec 32 := Scalar.addi v10 v11
  let c0_i32 : BitVec 32 := 0#32
  ![v12.toNat, 0]
def k0_off2 (d0 : Dev nD) : Fin 2 → Nat :=
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1024_i32 : BitVec 32 := 1024#32
  let v7 : BitVec 32 := Scalar.muli v6 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v8 : BitVec 32 := Scalar.muli v2 c512_i32
  let v9 : BitVec 32 := Scalar.addi v7 v8
  let c0_i32_5 : BitVec 32 := 0#32
  ![v9.toNat, 0]
def k0_dev1 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v17 : BitVec 32 := Scalar.muli v2 c2_i32_8
  let v18 : BitVec 32 := Scalar.addi c0_i32_9 v17
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v16 : BitVec 32 := Scalar.subi c1_i32_6 v5
  let c1_i32_10 : BitVec 32 := 1#32
  let v19 : BitVec 32 := Scalar.muli v16 c1_i32_10
  let v20 : BitVec 32 := Scalar.addi v18 v19
  v20.toNat
def k0_dev2 (d0 : Dev nD) : Nat :=
  let c0_i32_14 : BitVec 32 := 0#32
  let c1_i32_11 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_11 v2
  let c2_i32_13 : BitVec 32 := 2#32
  let v22 : BitVec 32 := Scalar.muli v21 c2_i32_13
  let v23 : BitVec 32 := Scalar.addi c0_i32_14 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v24 : BitVec 32 := Scalar.muli v5 c1_i32_15
  let v25 : BitVec 32 := Scalar.addi v23 v24
  v25.toNat
def k0_dev3 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v33 : BitVec 32 := Scalar.muli v2 c2_i32_24
  let v34 : BitVec 32 := Scalar.addi c0_i32_25 v33
  let c1_i32_21 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v32 : BitVec 32 := Scalar.subi c1_i32_21 v5
  let c1_i32_26 : BitVec 32 := 1#32
  let v35 : BitVec 32 := Scalar.muli v32 c1_i32_26
  let v36 : BitVec 32 := Scalar.addi v34 v35
  v36.toNat
def k0_dev4 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v49 : BitVec 32 := Scalar.muli v2 c2_i32_37
  let v50 : BitVec 32 := Scalar.addi c0_i32_38 v49
  let c1_i32_34 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v48 : BitVec 32 := Scalar.subi c1_i32_34 v5
  let c1_i32_39 : BitVec 32 := 1#32
  let v51 : BitVec 32 := Scalar.muli v48 c1_i32_39
  let v52 : BitVec 32 := Scalar.addi v50 v51
  v52.toNat
def k0_dev5 (d0 : Dev nD) : Nat :=
  let c0_i32_50 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_49 : BitVec 32 := 2#32
  let v65 : BitVec 32 := Scalar.muli v2 c2_i32_49
  let v66 : BitVec 32 := Scalar.addi c0_i32_50 v65
  let c1_i32_46 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v64 : BitVec 32 := Scalar.subi c1_i32_46 v5
  let c1_i32_51 : BitVec 32 := 1#32
  let v67 : BitVec 32 := Scalar.muli v64 c1_i32_51
  let v68 : BitVec 32 := Scalar.addi v66 v67
  v68.toNat
def k0_dev6 (d0 : Dev nD) : Nat :=
  let c0_i32_61 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_60 : BitVec 32 := 2#32
  let v81 : BitVec 32 := Scalar.muli v2 c2_i32_60
  let v82 : BitVec 32 := Scalar.addi c0_i32_61 v81
  let c1_i32_58 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v80 : BitVec 32 := Scalar.subi c1_i32_58 v5
  let c1_i32_62 : BitVec 32 := 1#32
  let v83 : BitVec 32 := Scalar.muli v80 c1_i32_62
  let v84 : BitVec 32 := Scalar.addi v82 v83
  v84.toNat
def k0_dev7 (d0 : Dev nD) : Nat :=
  let c0_i32_72 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_71 : BitVec 32 := 2#32
  let v97 : BitVec 32 := Scalar.muli v2 c2_i32_71
  let v98 : BitVec 32 := Scalar.addi c0_i32_72 v97
  let c1_i32_69 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v96 : BitVec 32 := Scalar.subi c1_i32_69 v5
  let c1_i32_73 : BitVec 32 := 1#32
  let v99 : BitVec 32 := Scalar.muli v96 c1_i32_73
  let v100 : BitVec 32 := Scalar.addi v98 v99
  v100.toNat
def k0_dev8 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v113 : BitVec 32 := Scalar.muli v2 c2_i32_82
  let v114 : BitVec 32 := Scalar.addi c0_i32_83 v113
  let c1_i32_80 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v112 : BitVec 32 := Scalar.subi c1_i32_80 v5
  let c1_i32_84 : BitVec 32 := 1#32
  let v115 : BitVec 32 := Scalar.muli v112 c1_i32_84
  let v116 : BitVec 32 := Scalar.addi v114 v115
  v116.toNat
def k0_dev9 (d0 : Dev nD) : Nat :=
  let c0_i32_94 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_93 : BitVec 32 := 2#32
  let v129 : BitVec 32 := Scalar.muli v2 c2_i32_93
  let v130 : BitVec 32 := Scalar.addi c0_i32_94 v129
  let c1_i32_91 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v128 : BitVec 32 := Scalar.subi c1_i32_91 v5
  let c1_i32_95 : BitVec 32 := 1#32
  let v131 : BitVec 32 := Scalar.muli v128 c1_i32_95
  let v132 : BitVec 32 := Scalar.addi v130 v131
  v132.toNat
def k0_dev10 (d0 : Dev nD) : Nat :=
  let c0_i32_105 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_104 : BitVec 32 := 2#32
  let v145 : BitVec 32 := Scalar.muli v2 c2_i32_104
  let v146 : BitVec 32 := Scalar.addi c0_i32_105 v145
  let c1_i32_102 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v144 : BitVec 32 := Scalar.subi c1_i32_102 v5
  let c1_i32_106 : BitVec 32 := 1#32
  let v147 : BitVec 32 := Scalar.muli v144 c1_i32_106
  let v148 : BitVec 32 := Scalar.addi v146 v147
  v148.toNat
def k0_off3 (d0 : Dev nD) (c0_i32_131 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_130 : BitVec 32 := 512#32
  let v186 : BitVec 32 := Scalar.muli v2 c512_i32_130
  let v187 : BitVec 32 := Scalar.addi v186 c0_i32_131
  let v188 : Index := Scalar.indexCast v187
  let c0_132 : Index := 0#32
  ![v188.toNat, 0]
def k0_dev11 (d0 : Dev nD) : Nat :=
  let c0_i32_137 : BitVec 32 := 0#32
  let c1_i32_133 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v192 : BitVec 32 := Scalar.subi c1_i32_133 v2
  let c2_i32_136 : BitVec 32 := 2#32
  let v193 : BitVec 32 := Scalar.muli v192 c2_i32_136
  let v194 : BitVec 32 := Scalar.addi c0_i32_137 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_138 : BitVec 32 := 1#32
  let v195 : BitVec 32 := Scalar.muli v5 c1_i32_138
  let v196 : BitVec 32 := Scalar.addi v194 v195
  v196.toNat
def k0_off4 (d0 : Dev nD) (c0_i32_146 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_145 : BitVec 32 := 512#32
  let v205 : BitVec 32 := Scalar.muli v2 c512_i32_145
  let v206 : BitVec 32 := Scalar.addi v205 c0_i32_146
  let c0_i32_148 : BitVec 32 := 0#32
  ![v206.toNat, 0]
def k0_dev12 (d0 : Dev nD) : Nat :=
  let c0_i32_177 : BitVec 32 := 0#32
  let c1_i32_173 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v247 : BitVec 32 := Scalar.subi c1_i32_173 v2
  let c2_i32_176 : BitVec 32 := 2#32
  let v248 : BitVec 32 := Scalar.muli v247 c2_i32_176
  let v249 : BitVec 32 := Scalar.addi c0_i32_177 v248
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v250 : BitVec 32 := Scalar.muli v5 c1_i32_178
  let v251 : BitVec 32 := Scalar.addi v249 v250
  v251.toNat
def k0_dev13 (d0 : Dev nD) : Nat :=
  let c0_i32_217 : BitVec 32 := 0#32
  let c1_i32_213 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v302 : BitVec 32 := Scalar.subi c1_i32_213 v2
  let c2_i32_216 : BitVec 32 := 2#32
  let v303 : BitVec 32 := Scalar.muli v302 c2_i32_216
  let v304 : BitVec 32 := Scalar.addi c0_i32_217 v303
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_218 : BitVec 32 := 1#32
  let v305 : BitVec 32 := Scalar.muli v5 c1_i32_218
  let v306 : BitVec 32 := Scalar.addi v304 v305
  v306.toNat
def k0_dev14 (d0 : Dev nD) : Nat :=
  let c0_i32_257 : BitVec 32 := 0#32
  let c1_i32_253 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v357 : BitVec 32 := Scalar.subi c1_i32_253 v2
  let c2_i32_256 : BitVec 32 := 2#32
  let v358 : BitVec 32 := Scalar.muli v357 c2_i32_256
  let v359 : BitVec 32 := Scalar.addi c0_i32_257 v358
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_258 : BitVec 32 := 1#32
  let v360 : BitVec 32 := Scalar.muli v5 c1_i32_258
  let v361 : BitVec 32 := Scalar.addi v359 v360
  v361.toNat
def k0_dev15 (d0 : Dev nD) : Nat :=
  let c0_i32_297 : BitVec 32 := 0#32
  let c1_i32_293 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v412 : BitVec 32 := Scalar.subi c1_i32_293 v2
  let c2_i32_296 : BitVec 32 := 2#32
  let v413 : BitVec 32 := Scalar.muli v412 c2_i32_296
  let v414 : BitVec 32 := Scalar.addi c0_i32_297 v413
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v415 : BitVec 32 := Scalar.muli v5 c1_i32_298
  let v416 : BitVec 32 := Scalar.addi v414 v415
  v416.toNat
def k0_dev16 (d0 : Dev nD) : Nat :=
  let c0_i32_337 : BitVec 32 := 0#32
  let c1_i32_333 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v467 : BitVec 32 := Scalar.subi c1_i32_333 v2
  let c2_i32_336 : BitVec 32 := 2#32
  let v468 : BitVec 32 := Scalar.muli v467 c2_i32_336
  let v469 : BitVec 32 := Scalar.addi c0_i32_337 v468
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_338 : BitVec 32 := 1#32
  let v470 : BitVec 32 := Scalar.muli v5 c1_i32_338
  let v471 : BitVec 32 := Scalar.addi v469 v470
  v471.toNat
def k0_dev17 (d0 : Dev nD) : Nat :=
  let c0_i32_377 : BitVec 32 := 0#32
  let c1_i32_373 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v522 : BitVec 32 := Scalar.subi c1_i32_373 v2
  let c2_i32_376 : BitVec 32 := 2#32
  let v523 : BitVec 32 := Scalar.muli v522 c2_i32_376
  let v524 : BitVec 32 := Scalar.addi c0_i32_377 v523
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_378 : BitVec 32 := 1#32
  let v525 : BitVec 32 := Scalar.muli v5 c1_i32_378
  let v526 : BitVec 32 := Scalar.addi v524 v525
  v526.toNat
def k0_dev18 (d0 : Dev nD) : Nat :=
  let c0_i32_417 : BitVec 32 := 0#32
  let c1_i32_413 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v577 : BitVec 32 := Scalar.subi c1_i32_413 v2
  let c2_i32_416 : BitVec 32 := 2#32
  let v578 : BitVec 32 := Scalar.muli v577 c2_i32_416
  let v579 : BitVec 32 := Scalar.addi c0_i32_417 v578
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_418 : BitVec 32 := 1#32
  let v580 : BitVec 32 := Scalar.muli v5 c1_i32_418
  let v581 : BitVec 32 := Scalar.addi v579 v580
  v581.toNat
def k0_off5 (d0 : Dev nD) (c0_i32_441 : BitVec 32) : Fin 2 → Nat :=
  let c1_i32_439 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v604 : BitVec 32 := Scalar.subi c1_i32_439 v2
  let c512_i32_440 : BitVec 32 := 512#32
  let v605 : BitVec 32 := Scalar.muli v604 c512_i32_440
  let v606 : BitVec 32 := Scalar.addi v605 c0_i32_441
  let v609 : Index := Scalar.indexCast v606
  let c0_444 : Index := 0#32
  ![v609.toNat, 0]
def k0_off6 (d0 : Dev nD) (c0_i32_441 : BitVec 32) : Fin 2 → Nat :=
  let c1_i32_439 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v604 : BitVec 32 := Scalar.subi c1_i32_439 v2
  let c512_i32_440 : BitVec 32 := 512#32
  let v605 : BitVec 32 := Scalar.muli v604 c512_i32_440
  let v606 : BitVec 32 := Scalar.addi v605 c0_i32_441
  let c0_i32_446 : BitVec 32 := 0#32
  ![v606.toNat, 0]
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Fold.lean ====
/-
  The kernel body folded over its eight chunks: one definition per kind of step, at a symbolic device
  and chunk, and the equation that the printed body is this program.
-/
module

public import proofs.«01_k».proof.Proof.Gen.KernelIdeal.Launch
public import proofs.«01_k».proof.Proof.Gen.KernelIdeal.Skeleton
public import Idealize.ShloMosaic.Lib.Pipeline.Regions

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL Idealize.SL.Sem

variable {F : FTy → Type} [FloatOps F]

/-! ## Devices, chunks, semaphores -/

/-- The neighbour along the second mesh axis: the device this one exchanges partial sums with. -/
def yp (c : Dev nD) : Dev nD := ⟨k0_dev1 c, k0_dev1_lt c⟩
/-- The neighbour along the first mesh axis: the device this one exchanges finished rows with. -/
def xp (c : Dev nD) : Dev nD := ⟨k0_dev2 c, k0_dev2_lt c⟩

theorem yp_yp : ∀ c : Dev nD, yp (yp c) = c := by decide +kernel
theorem xp_xp : ∀ c : Dev nD, xp (xp c) = c := by decide +kernel

theorem inb64 (k : Fin 8) : ∀ a, (![64 * k.val, 0] : Fin 2 → Nat) a + S64x1024.size a ≤ S512x1024.size a := by
  revert k; decide

/-- Rows `64 k … 64 k + 63` of a 512-row buffer. -/
abbrev rowR (k : Fin 8) : Rect S512x1024 := Rect.unit (s := S512x1024) ![64 * k.val, 0] S64x1024.size (inb64 k)

theorem words64 : ∀ k : Fin 8, (rowR k).WholeWords (EltTy.packing .bf16) := by decide
theorem packed64 : ∀ k : Fin 8, (rowR k).PackedRows (EltTy.packing .bf16) := by decide

/-- The word naming chunk `k`'s first row. -/
abbrev rowW (k : Fin 8) : BitVec 32 := BitVec.ofNat 32 (64 * k.val)

/-- Chunk `k` of the half of a 1024-row buffer that device `d` normalises itself. -/
abbrev ownR (d : Dev nD) (k : Fin 8) : Rect S1024x1024 := Rect.unit (s := S1024x1024) (k0_off3 d (rowW k)) S64x1024.size (k0_off3_inb d k)
/-- Chunk `k` of the half that device `d` receives finished. -/
abbrev othR (d : Dev nD) (k : Fin 8) : Rect S1024x1024 := Rect.unit (s := S1024x1024) (k0_off5 d (rowW k)) S64x1024.size (k0_off5_inb d k)

/-- The transfer semaphores in the order the kernel declares them: `gs 0` and `gs 1` count the copies to the result of the
    own and of the received half, `gs 2` and `gs 3` the sends and arrivals of partial sums, `gs 4` and `gs 5` those of
    finished rows. -/
def gs (j : Fin 6) (k : Fin 8) : DmaSem sig := ⟨3 + 8 * j.val + k.val, by have := j.isLt; have := k.isLt; show _ < 51; omega⟩
/-- The semaphore of the copy of the device's own rows. -/
def mySem : DmaSem sig := ⟨1, by decide⟩
/-- The semaphore of the copy of the rows the neighbour needs. -/
def peerSem : DmaSem sig := ⟨2, by decide⟩

/-! ## Memory references -/

abbrev mP : Memref sig .tc .hbm S2048x1024 .f32 := Memref.whole main_v1
abbrev mG : Memref sig .tc .vmem S1x1024 .f32 := Memref.whole cc0_stg0_0
abbrev mO : Memref sig .tc .hbm S1024x1024 .f32 := Memref.whole main_v3
abbrev mMy : Memref sig .tc .vmem S512x1024 .f32 := Memref.whole cc0_scratch0
abbrev mPeer : Memref sig .tc .vmem S512x1024 .f32 := Memref.whole cc0_scratch1
abbrev mS1 : Memref sig .tc .vmem S512x1024 .bf16 := Memref.whole cc0_scratch2
abbrev mR1 : Memref sig .tc .vmem S512x1024 .bf16 := Memref.whole cc0_scratch3
abbrev mS2 : Memref sig .tc .vmem S512x1024 .bf16 := Memref.whole cc0_scratch4
abbrev mR2 : Memref sig .tc .vmem S512x1024 .bf16 := Memref.whole cc0_scratch5
abbrev mSt : Memref sig .tc .vmem S1024x1024 .f32 := Memref.whole cc0_scratch6

/-- The rows of the input that device `d` keeps. -/
abbrev pMy (d : Dev nD) : Memref sig .tc .hbm S512x1024 .f32 :=
  mP.slice (Rect.unit (s := S2048x1024) (k0_off1 d) S512x1024.size (k0_off1_inb d)) (fun _ => rfl)
/-- The rows of the input that device `d` hands over. -/
abbrev pPeer (d : Dev nD) : Memref sig .tc .hbm S512x1024 .f32 :=
  mP.slice (Rect.unit (s := S2048x1024) (k0_off2 d) S512x1024.size (k0_off2_inb d)) (fun _ => rfl)

/-- Chunk `k` of a half-precision scratch buffer. -/
abbrev ch (b : Memref sig .tc .vmem S512x1024 .bf16) (k : Fin 8) : Memref sig .tc .vmem S64x1024 .bf16 := b.slice (rowR k) (fun _ => rfl)
abbrev ownO (d : Dev nD) (k : Fin 8) : Memref sig .tc .hbm S64x1024 .f32 :=
  mO.slice (Rect.unit (s := S1024x1024) (k0_off4 d (rowW k)) S64x1024.size (k0_off4_inb d k)) (fun _ => rfl)
abbrev ownS (d : Dev nD) (k : Fin 8) : Memref sig .tc .vmem S64x1024 .f32 :=
  mSt.slice (Rect.unit (s := S1024x1024) (k0_off4 d (rowW k)) S64x1024.size (k0_off4_inb d k)) (fun _ => rfl)
abbrev othO (d : Dev nD) (k : Fin 8) : Memref sig .tc .hbm S64x1024 .f32 :=
  mO.slice (Rect.unit (s := S1024x1024) (k0_off6 d (rowW k)) S64x1024.size (k0_off6_inb d k)) (fun _ => rfl)
abbrev othS (d : Dev nD) (k : Fin 8) : Memref sig .tc .vmem S64x1024 .f32 :=
  mSt.slice (Rect.unit (s := S1024x1024) (k0_off6 d (rowW k)) S64x1024.size (k0_off6_inb d k)) (fun _ => rfl)

theorem whS1 (k : Fin 8) : (ch mS1 k).view.WordExact := (Memref.isWhole_whole cc0_scratch2).wordExact_slice rfl _ (words64 k)
theorem whR1 (k : Fin 8) : (ch mR1 k).view.WordExact := (Memref.isWhole_whole cc0_scratch3).wordExact_slice rfl _ (words64 k)
theorem whS2 (k : Fin 8) : (ch mS2 k).view.WordExact := (Memref.isWhole_whole cc0_scratch4).wordExact_slice rfl _ (words64 k)
theorem whR2 (k : Fin 8) : (ch mR2 k).view.WordExact := (Memref.isWhole_whole cc0_scratch5).wordExact_slice rfl _ (words64 k)

/-! ## The steps -/

abbrev Pr : Type 1 := Prog (TpuEff nD τ sig (Elt F) Λ₀ .tc) PUnit

/-- Start the two copies of input rows, meet both neighbours at the barrier, and take the rows to hand over. -/
def begin' (d : Dev nD) (K : Pr (F := F)) : Pr (F := F) :=
  .op (.enqueueDma (pMy d) (.here mMy) (.dma mySem) (View.wordExact_bits rfl) (View.wordExact_bits rfl) ⟨Or.inl rfl, trivial⟩) fun _ =>
  .op (.enqueueDma (pPeer d) (.here mPeer) (.dma peerSem) (View.wordExact_bits rfl) (View.wordExact_bits rfl) ⟨Or.inl rfl, trivial⟩) fun _ =>
  .op (.semSignal (yp d, .tc) barrier0 1) fun _ =>
  .op (.semSignal (xp d, .tc) barrier0 1) fun _ =>
  .op (.semWait barrier0 2) fun _ =>
  .op (.waitDma2 peerSem (pPeer d) mPeer (View.wordExact_bits rfl) (View.wordExact_bits rfl)) fun _ => K

/-- Chunk `k` of the partial sums: narrow it and send it to the neighbour. -/
def step1 (d : Dev nD) (k : Fin 8) (K : Pr (F := F)) : Pr (F := F) :=
  .op (.load mPeer (rowR k).toLoadRect (View.loadsAt_vmem h_S64x1024)) fun v =>
  .op (.load mS1 (rowR k).toLoadRect (View.loadsAt_vmem h_S64x1024)) fun _ =>
  .op (.store mS1 (rowR k) (k0_pay1 v) Finset.univ (View.stores_vmem h_S64x1024 ((Memref.isWhole_whole cc0_scratch2).storeExact_slice rfl _ (packed64 k)) (fun _ => rfl)) (.inl rfl)) fun _ =>
  .op (.enqueueDma (ch mS1 k) (.remote (Dev.tc (yp d)) (ch mR1 k) (.dma (gs 2 k))) (.dma (gs 3 k)) (whS1 k) (whR1 k) ⟨⟨rfl, Or.inl rfl⟩, trivial⟩) fun _ => K

/-- Wait for the device's own rows. -/
def middle (d : Dev nD) (K : Pr (F := F)) : Pr (F := F) :=
  .op (.waitDma2 mySem (pMy d) mMy (View.wordExact_bits rfl) (View.wordExact_bits rfl)) fun _ => K

/-- Chunk `k` of the own half: add the neighbour's partial sums, normalise, send the narrowed rows and copy the rows out. -/
def step2 (d : Dev nD) (k : Fin 8) (K : Pr (F := F)) : Pr (F := F) :=
  .op (.waitDma2 (gs 3 k) (ch mS1 k) (ch mR1 k) (whS1 k) (whR1 k)) fun _ =>
  .op (.load mMy (rowR k).toLoadRect (View.loadsAt_vmem h_S64x1024)) fun a =>
  .op (.load mR1 (rowR k).toLoadRect (View.loadsAt_vmem h_S64x1024)) fun b =>
  .op (.load mG (Rect.unit (s := S1x1024) ![0, 0] S1x1024.size inb_S1x1024_S1x1024_0_0).toLoadRect (View.loadsAt_vmem h_S1x1024)) fun g =>
  .op (.load mS2 (rowR k).toLoadRect (View.loadsAt_vmem h_S64x1024)) fun _ =>
  .op (.store mS2 (rowR k) (k0_pay15 a b g) Finset.univ (View.stores_vmem h_S64x1024 ((Memref.isWhole_whole cc0_scratch4).storeExact_slice rfl _ (packed64 k)) (fun _ => rfl)) (.inl rfl)) fun _ =>
  .op (.load mSt (ownR d k).toLoadRect (View.loadsAt_vmem h_S64x1024)) fun _ =>
  .op (.store mSt (ownR d k) (k0_pay16 a b g) Finset.univ (View.stores_vmem_bits_univ h_S64x1024 rfl) (.inl rfl)) fun _ =>
  .op (.enqueueDma (ch mS2 k) (.remote (Dev.tc (xp d)) (ch mR2 k) (.dma (gs 4 k))) (.dma (gs 5 k)) (whS2 k) (whR2 k) ⟨⟨rfl, Or.inl rfl⟩, trivial⟩) fun _ =>
  .op (.enqueueDma (ownS d k) (.here (ownO d k)) (.dma (gs 0 k)) (View.wordExact_bits rfl) (View.wordExact_bits rfl) ⟨Or.inl rfl, trivial⟩) fun _ => K

/-- Chunk `k` of the other half: wait for it, widen it and copy it out. -/
def step3 (d : Dev nD) (k : Fin 8) (K : Pr (F := F)) : Pr (F := F) :=
  .op (.waitDma2 (gs 5 k) (ch mS2 k) (ch mR2 k) (whS2 k) (whR2 k)) fun _ =>
  .op (.load mR2 (rowR k).toLoadRect (View.loadsAt_vmem h_S64x1024)) fun v =>
  .op (.load mSt (othR d k).toLoadRect (View.loadsAt_vmem h_S64x1024)) fun _ =>
  .op (.store mSt (othR d k) (k0_pay39 v) Finset.univ (View.stores_vmem_bits_univ h_S64x1024 rfl) (.inl rfl)) fun _ =>
  .op (.enqueueDma (othS d k) (.here (othO d k)) (.dma (gs 1 k)) (View.wordExact_bits rfl) (View.wordExact_bits rfl) ⟨Or.inl rfl, trivial⟩) fun _ => K

/-- Wait until both of chunk `k`'s sends have left. -/
def step4 (k : Fin 8) (K : Pr (F := F)) : Pr (F := F) :=
  .op (.waitDma2 (gs 2 k) (ch mR1 k) (ch mS1 k) (whR1 k) (whS1 k)) fun _ =>
  .op (.waitDma2 (gs 4 k) (ch mR2 k) (ch mS2 k) (whR2 k) (whS2 k)) fun _ => K

/-- Wait for the copy of chunk `k` of the own half. -/
def step5 (d : Dev nD) (k : Fin 8) (K : Pr (F := F)) : Pr (F := F) :=
  .op (.waitDma2 (gs 0 k) (ownS d k) (ownO d k) (View.wordExact_bits rfl) (View.wordExact_bits rfl)) fun _ => K

/-- Wait for the copy of chunk `k` of the other half. -/
def step6 (d : Dev nD) (k : Fin 8) (K : Pr (F := F)) : Pr (F := F) :=
  .op (.waitDma2 (gs 1 k) (othS d k) (othO d k) (View.wordExact_bits rfl) (View.wordExact_bits rfl)) fun _ => K

/-- The eight chunks in order. -/
def chunks : List (Fin 8) := [0, 1, 2, 3, 4, 5, 6, 7]

/-- The whole body on device `d`. -/
def talkAt (d : Dev nD) : Pr (F := F) :=
  begin' d <| chunks.foldr (step1 d) <| middle d <| chunks.foldr (step2 d) <| chunks.foldr (step3 d) <|
    chunks.foldr step4 <| chunks.foldr (step5 d) <| chunks.foldr (step6 d) <| .ret ⟨⟩

/-- The whole body. -/
def talk : Pr (F := F) := .op .deviceId talkAt

/-- The printed body at the region's only point is the folded program. -/
theorem body_eq :
    cc0_body (F := F) mP (Memref.isWhole_whole _) (win0_0.stage 0) (hstage0_0 0) mO (Memref.isWhole_whole _)
      mMy (Memref.isWhole_whole _) mPeer (Memref.isWhole_whole _) mS1 (Memref.isWhole_whole _) mR1 (Memref.isWhole_whole _)
      mS2 (Memref.isWhole_whole _) mR2 (Memref.isWhole_whole _) mSt (Memref.isWhole_whole _)
      cc0_scratch7 cc0_scratch8 cc0_scratch9 cc0_scratch10 cc0_scratch11 cc0_scratch12 cc0_scratch13 cc0_scratch14 = talk := by
  chain_rfl

end Cert.Talk

end
-- ==== Proof.Protocol.lean ====
/-
  The protocol of the exchange: what every buffer holds, the cells and the one round of duties on each, what a
  device owes and the levels that order its waits.
-/
module

public import proofs.«01_k».proof.Proof.Fold
public import proofs.«01_k».proof.Proof.Gen.KernelIdeal.Frame

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

/-- Two copies of the rounds algebra: the staging copies' and the exchange's, whose duties are named by a truth value. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (m : (ℓ : Loc nD τ sig) → Buf (Elt F) ℓ)

/-! ## Contents -/

/-- The input rows device `c` keeps. -/
def myB (c : Dev nD) : S512x1024.Idx → Elt F .f32 := (pMy c).view.read (Elt F) (V m c main_v1)
/-- The input rows device `c` hands to its neighbour. -/
def peerB (c : Dev nD) : S512x1024.Idx → Elt F .f32 := (pPeer c).view.read (Elt F) (V m c main_v1)
/-- Chunk `k` of the rows kept. -/
def myC (c : Dev nD) (k : Fin 8) : S64x1024.Idx → Elt F .f32 := fun x => myB m c ((rowR k).emb x)
/-- Chunk `k` of the rows handed over. -/
def peerC (c : Dev nD) (k : Fin 8) : S64x1024.Idx → Elt F .f32 := fun x => peerB m c ((rowR k).emb x)
/-- What the staged weight row holds. -/
def gamB (c : Dev nD) : Buf (Elt F) ((c : Thread nD τ).loc cc0_stg0_0) := iblk m c 0 t0_0
/-- The weight row as the body loads it. -/
def gam (c : Dev nD) : S1x1024.Idx → Elt F .f32 :=
  mG.view.readAt (Elt F) (Rect.unit (s := S1x1024) ![0, 0] S1x1024.size inb_S1x1024_S1x1024_0_0).toLoadRect (gamB m c)
/-- What device `c` sends of chunk `k`: its rows for the neighbour, narrowed. -/
def sent (c : Dev nD) (k : Fin 8) : S64x1024.Idx → Elt F .bf16 := k0_pay1 (peerC m c k)
/-- Chunk `k` of device `c`'s own half, finished. -/
def N32 (c : Dev nD) (k : Fin 8) : S64x1024.Idx → Elt F .f32 := k0_pay16 (myC m c k) (sent m (yp c) k) (gam m c)
/-- The same, narrowed for the neighbour. -/
def N16 (c : Dev nD) (k : Fin 8) : S64x1024.Idx → Elt F .bf16 := k0_pay15 (myC m c k) (sent m (yp c) k) (gam m c)
/-- Chunk `k` of the other half as device `c` finishes with it: the neighbour's, widened. -/
def W32 (c : Dev nD) (k : Fin 8) : S64x1024.Idx → Elt F .f32 := k0_pay39 (N16 m (xp c) k)

/-! ## Ownership of a view -/

/-- Full ownership of a view's elements, at contents not chosen. -/
def own {sp : Space} {s : Shape} {e : EltTy} (v : View sig .tc sp s e) (c : Dev nD) : sProp 𝕄 :=
  iprop(∃ f : Buf (Elt F) (v.loc (c : Thread nD τ)), v.loc (c : Thread nD τ) ↦[v.set]{fullShare} f)
/-- Full ownership of a view's elements, which read `X`. -/
def has {sp : Space} {s : Shape} {e : EltTy} (v : View sig .tc sp s e) (c : Dev nD) (X : s.Idx → Elt F e) : sProp 𝕄 :=
  iprop(∃ f : Buf (Elt F) (v.loc (c : Thread nD τ)), (v.loc (c : Thread nD τ) ↦[v.set]{fullShare} f) ∗ ⌜v.read (Elt F) f = X⌝)
/-- Full ownership of the input rows under a view, at what the input holds. -/
abbrev inp {s : Shape} (v : Memref sig .tc .hbm s .f32) (c : Dev nD) (f : Buf (Elt F) (v.view.loc (c : Thread nD τ))) : sProp 𝕄 :=
  v.view.loc (c : Thread nD τ) ↦[v.view.set]{fullShare} f

instance own_storable {sp : Space} {s : Shape} {e : EltTy} (v : View sig .tc sp s e) (c : Dev nD) :
    BI.Storable (upEmb : UEmb _ 𝕄) (own (F := F) v c) := by unfold own; infer_instance
instance has_storable {sp : Space} {s : Shape} {e : EltTy} (v : View sig .tc sp s e) (c : Dev nD) (X : s.Idx → Elt F e) :
    BI.Storable (upEmb : UEmb _ 𝕄) (has (F := F) v c X) := by unfold has; infer_instance

/-- Known contents are some contents. -/
theorem has_own {sp : Space} {s : Shape} {e : EltTy} (v : View sig .tc sp s e) (c : Dev nD) (X : s.Idx → Elt F e) :
    has v c X ⊢ (own v c : sProp 𝕄) := by
  unfold has own
  iintro ⟨%f, H, -⟩
  iexists f; iexact H

/-! ## Cells -/

/-- The transfer cells of one device: the two input copies, and the six families over the chunks. -/
abbrev KI : Type := Fin 2 ⊕ (Fin 6 × Fin 8)

/-- The semaphore of a transfer cell. -/
def ksem : KI → DmaSem sig
  | .inl i => if i = 0 then mySem else peerSem
  | .inr (j, k) => gs j k

/-- The transfer cell a semaphore index stands for; index 0 is the staging copy's. -/
def dec (n : Nat) : Option KI :=
  if n = 0 then none
  else if n = 1 then some (.inl 0)
  else if n = 2 then some (.inl 1)
  else if h : n < 51 then some (.inr (⟨(n - 3) / 8, by omega⟩, ⟨(n - 3) % 8, by omega⟩))
  else none

theorem dec_ksem : ∀ i : KI, dec (ksem i).val = some i := by decide +kernel

/-- A device's transfer cell. -/
abbrev dcell (c : Dev nD) (i : KI) : GSem nD τ sig := ((c : Thread nD τ), .dma (ksem i))
/-- A device's barrier cell. -/
abbrev barCell (c : Dev nD) : GSem nD τ sig := ((c : Thread nD τ), .reg barrier0)

/-! ## The schedule -/

/-- The credit of an input copy. -/
def Nin : ℕ := mMy.view.dmaCredit
/-- The credit of a chunk of the result. -/
def Nout : ℕ := (ownO 0 0).view.dmaCredit
/-- The credit of a narrow chunk. -/
def Nch : ℕ := (ch mR1 0).view.dmaCredit

theorem Nin_pos : 0 < Nin := View.dmaCredit_pos mMy.view (by decide +kernel : 0 < S512x1024.numel)
theorem Nout_pos : 0 < Nout := View.dmaCredit_pos (ownO 0 0).view (by decide +kernel : 0 < S64x1024.numel)
theorem Nch_pos : 0 < Nch := View.dmaCredit_pos (ch mR1 0).view (by decide +kernel : 0 < S64x1024.numel)

/-- The units one transfer adds to its cell. -/
def amt : KI → ℕ
  | .inl _ => Nin
  | .inr (j, _) => if j.val < 2 then Nout else Nch

theorem amt_pos (i : KI) : 0 < amt i := by
  rcases i with i | ⟨j, k⟩
  · exact Nin_pos
  · by_cases h : j.val < 2
    · rw [amt, if_pos h]; exact Nout_pos
    · rw [amt, if_neg h]; exact Nch_pos

/-- What a transfer's landing hands to the waiter of cell `i` of device `c`. -/
def payD (c : Dev nD) : KI → sProp 𝕄
  | .inl i => if i = 0 then iprop(has mMy.view c (myB m c) ∗ inp (pMy c) c (V m c main_v1))
      else iprop(has mPeer.view c (peerB m c) ∗ inp (pPeer c) c (V m c main_v1))
  | .inr (j, k) =>
      if j = 0 then iprop(has (ownO c k).view c (N32 m c k) ∗ own (ownS c k).view c)
      else if j = 1 then iprop(has (othO c k).view c (W32 m c k) ∗ own (othS c k).view c)
      else if j = 2 then own (ch mS1 k).view c
      else if j = 3 then has (ch mR1 k).view c (sent m (yp c) k)
      else if j = 4 then own (ch mS2 k).view c
      else has (ch mR2 k).view c (N16 m (xp c) k)

/-- What the signal of the neighbour across the second axis hands over: its landing chunks for partial sums. -/
def payY (c : Dev nD) : sProp 𝕄 :=
  bigSep Finset.univ fun k : Fin 8 => iprop(own (ch mR1 k).view (yp c) ∗ reached ER (dcell (yp c) (.inr (3, k))) 0)
/-- What the signal of the neighbour across the first axis hands over: its landing chunks for finished rows. -/
def payX (c : Dev nD) : sProp 𝕄 :=
  bigSep Finset.univ fun k : Fin 8 => iprop(own (ch mR2 k).view (xp c) ∗ reached ER (dcell (xp c) (.inr (5, k))) 0)

/-- The duties of a semaphore's one round. -/
def semDuties : SemLoc sig → Finset Bool
  | .reg _ => {false, true}
  | .dma s => if (dec s.val).isSome then {false} else ∅

/-- One round: on a barrier cell one unit from each neighbour, on a transfer cell the one transfer. -/
def rd : Rounds.Schedule (GSem nD τ sig) Bool 𝕄 where
  duties g r := if r = 0 ∧ g.1.2 = .tc then semDuties g.2 else ∅
  unitless _ := False
  amount g _ _ := match g.2 with
    | .reg _ => 1
    | .dma s => match dec s.val with | none => 1 | some i => amt i
  payload g _ d := match g.2 with
    | .reg _ => if d then payX g.1.1 else payY g.1.1
    | .dma s => match dec s.val with | none => iprop(emp) | some i => payD m g.1.1 i
  amount_pos g _ _ _ := by
    rcases g with ⟨t, s | s⟩
    · exact Nat.one_pos
    · show 0 < (match dec s.val with | none => 1 | some i => amt i)
      split
      · exact Nat.one_pos
      · exact amt_pos _

instance payD_storable (c : Dev nD) (i : KI) : BI.Storable (upEmb : UEmb _ 𝕄) (payD m c i) := by
  rcases i with i | ⟨j, k⟩
  · show BI.Storable upEmb (ite _ _ _)
    (repeat' split) <;> infer_instance
  · show BI.Storable upEmb (ite _ _ _)
    (repeat' split) <;> infer_instance

instance rd_payload_storable (g : GSem nD τ sig) (r : ℕ) (d : Bool) :
    BI.Storable (upEmb : UEmb _ 𝕄) ((rd (F := F) m).payload g r d) := by
  rcases g with ⟨t, s | s⟩
  · show BI.Storable upEmb (if d then payX t.1 else payY t.1)
    unfold payX payY
    split <;> infer_instance
  · show BI.Storable upEmb (match dec s.val with | none => iprop(emp) | some i => payD m t.1 i)
    split <;> infer_instance

section Sched

variable (c : Dev nD) (i : KI)

theorem duties_bar : (rd (F := F) m).duties (barCell c) 0 = {false, true} := by
  dsimp only [rd]; rw [if_pos ⟨rfl, rfl⟩]; rfl
theorem duties_dma : (rd (F := F) m).duties (dcell c i) 0 = {false} := by
  dsimp only [rd]; rw [if_pos ⟨rfl, rfl⟩, semDuties, dec_ksem]; rfl
theorem duties_later (g : GSem nD τ sig) : ∀ r, 1 ≤ r → (rd (F := F) m).duties g r = ∅ :=
  fun r hr => by dsimp only [rd]; rw [if_neg (fun h => by omega)]
theorem amount_bar (d : Bool) : (rd (F := F) m).amount (barCell c) 0 d = 1 := rfl
theorem amount_dma (d : Bool) : (rd (F := F) m).amount (dcell c i) 0 d = amt i := by
  show (match dec (ksem i).val with | none => 1 | some i => amt i) = _
  rw [dec_ksem]
theorem expect_bar : (rd (F := F) m).expect (barCell c) 0 = 2 := by
  unfold Schedule.expect Schedule.amountOf
  rw [duties_bar, Finset.sum_pair (by decide), amount_bar, amount_bar]
theorem expect_dma : (rd (F := F) m).expect (dcell c i) 0 = amt i := by
  unfold Schedule.expect Schedule.amountOf
  rw [duties_dma, Finset.sum_singleton, amount_dma]
theorem payload_dma (d : Bool) : (rd (F := F) m).payload (dcell c i) 0 d = payD m c i := by
  show (match dec (ksem i).val with | none => iprop(emp) | some i => payD m c i) = _
  rw [dec_ksem]
theorem payload_barY : (rd (F := F) m).payload (barCell c) 0 false = payY c := rfl
theorem payload_barX : (rd (F := F) m).payload (barCell c) 0 true = payX c := rfl
theorem rest_dma : bigSep ((rd (F := F) m).duties (dcell c i) 0 \ ∅) (fun u => (rd (F := F) m).payload (dcell c i) 0 u) = payD m c i := by
  rw [Finset.sdiff_empty, duties_dma, bigSep_singleton, payload_dma]
theorem rest_bar : bigSep ((rd (F := F) m).duties (barCell c) 0 \ ∅) (fun u => (rd (F := F) m).payload (barCell c) 0 u)
    = iprop(payY c ∗ payX c) := by
  rw [Finset.sdiff_empty, duties_bar, bigSep_insert (by decide), bigSep_singleton]
  rfl

end Sched

/-! ## What a device owes; the levels -/

/-- The arrivals of partial sums device `c` owes its neighbour over the chunks of a list. -/
def owe3 (c : Dev nD) : List (Fin 8) → CellTallies nD τ sig Unit
  | [] => 0
  | k :: l => owe3 c l + tallyAt (dcell (yp c) (.inr (3, k))) () Nch
/-- The arrivals of finished rows device `c` owes its neighbour over the chunks of a list. -/
def owe5 (c : Dev nD) : List (Fin 8) → CellTallies nD τ sig Unit
  | [] => 0
  | k :: l => owe5 c l + tallyAt (dcell (xp c) (.inr (5, k))) () Nch
/-- Owed at launch: every arrival, and one barrier unit to each neighbour. -/
def O₀ (c : Dev nD) : CellTallies nD τ sig Unit :=
  owe5 c chunks + owe3 c chunks + tallyAt (barCell (xp c)) () 1 + tallyAt (barCell (yp c)) () 1

def L (g : GSem nD τ sig) : Finset Unit := if g.1.2 = .tc then {()} else ∅
/-- The level of a transfer cell: arrivals of partial sums below those of finished rows, all others at the bottom. -/
def klv : KI → ℕ
  | .inl _ => 0
  | .inr (j, _) => if j = 3 then 2 else if j = 5 then 3 else 0
/-- Barrier cells lie between the cells at the bottom and the arrivals. -/
def lv (g : GSem nD τ sig) (_ : Unit) : ℕ := match g.2 with
  | .reg _ => 1
  | .dma s => match dec s.val with | none => 0 | some i => klv i

theorem lv_dma (c : Dev nD) (i : KI) : lv (dcell c i) () = klv i := by
  show (match dec (ksem i).val with | none => 0 | some i => klv i) = _
  rw [dec_ksem]

theorem L_of_ne (g : GSem nD τ sig) (h : g.1.2 ≠ .tc) : L g = ∅ := if_neg h
theorem L_tc (c : Dev nD) (sm : SemLoc sig) : L ((c : Thread nD τ), sm) = {()} := if_pos rfl

/-- Everything owed lies on cells of the devices' main cores above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem above_tally {n : ℕ} (c : Dev nD) (sm : SemLoc sig) (k : ℕ) (h : n < lv ((c : Thread nD τ), sm) ()) :
    Above n (tallyAt ((c : Thread nD τ), sm) () k) := fun g u hg => by
  rw [tallyAt_apply] at hg
  split at hg
  · next he => rw [he.1, L_tc]; exact ⟨Finset.mem_singleton_self _, h⟩
  · exact absurd hg (Nat.lt_irrefl 0)
theorem above_owe3 {n : ℕ} (c : Dev nD) (h : n < 2) : ∀ l, Above n (owe3 c l)
  | [] => above_zero n
  | k :: l => above_add (above_owe3 c h l) (above_tally _ _ _ (by rw [lv_dma]; exact h))
theorem above_owe5 {n : ℕ} (c : Dev nD) (h : n < 3) : ∀ l, Above n (owe5 c l)
  | [] => above_zero n
  | k :: l => above_add (above_owe5 c h l) (above_tally _ _ _ (by rw [lv_dma]; exact h))
theorem above_O₀ (c : Dev nD) : Above 0 (O₀ c) :=
  above_add (above_add (above_add (above_owe5 c (by decide) _) (above_owe3 c (by decide) _)) (above_tally _ _ _ Nat.one_pos))
    (above_tally _ _ _ Nat.one_pos)

/-- A device may wait on a cell no higher than all it owes. -/
theorem mayWait (c : Dev nD) (sm : SemLoc sig) (n : ℕ) (O : CellTallies nD τ sig Unit) (h : Above n O)
    (hl : lv ((c : Thread nD τ), sm) () ≤ n) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (h g u hg).1)
    (fun p hp => by rw [Finset.mem_singleton.mp hp]; exact hl)
    (fun g u hg => (h g u hg).2)

/-! ## The invariants -/

/-- Every barrier cell. -/
def barEmb : Dev nD ↪ GSem nD τ sig := ⟨fun c => barCell c, fun _ _ h => congrArg (fun g : GSem nD τ sig => g.1.1) h⟩
theorem ksem_inj : Function.Injective ksem := fun i j h => by
  have := congrArg (fun s : DmaSem sig => dec s.val) h
  simp only [dec_ksem] at this
  exact Option.some.inj this
/-- Every transfer cell. -/
def dmaEmb : Dev nD × KI ↪ GSem nD τ sig := ⟨fun ci => dcell ci.1 ci.2, fun _ _ h =>
  Prod.ext (congrArg (fun g : GSem nD τ sig => g.1.1) h) (ksem_inj (SemLoc.dma.inj (congrArg Prod.snd h)))⟩
abbrev barCells : Finset (GSem nD τ sig) := Finset.univ.map barEmb
abbrev dmaCells : Finset (GSem nD τ sig) := Finset.univ.map dmaEmb

/-- The invariant of every cell, at the names `K`. -/
def IV (K : GSem nD τ sig → ℕ) : sProp 𝕄 := bigSep (barCells ∪ dmaCells) fun g => cellInv ER (rd m) (K g) g
instance IV_persistent (K : GSem nD τ sig → ℕ) : BI.Persistent (IV m K) := by unfold IV; infer_instance
theorem IV_bar (K : GSem nD τ sig → ℕ) (c : Dev nD) : IV m K ⊢ cellInv ER (rd m) (K (barCell c)) (barCell c) :=
  bigSep_elim (Finset.mem_union_left _ (Finset.mem_map_of_mem barEmb (Finset.mem_univ c)))
theorem IV_dma (K : GSem nD τ sig → ℕ) (c : Dev nD) (i : KI) : IV m K ⊢ cellInv ER (rd m) (K (dcell c i)) (dcell c i) :=
  bigSep_elim (Finset.mem_union_right _ (Finset.mem_map_of_mem dmaEmb (Finset.mem_univ (c, i))))

end Cert.Talk

end
-- ==== Proof.Steps.lean ====
/-
  Running the pieces of the body: one rule per kind of instruction in terms of the ownership of views, then one
  lemma per kind of chunk step, and a fold over the chunks.
-/
module

public import proofs.«01_k».proof.Proof.Protocol

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

abbrev 𝒱₀ : Variants := Variants.none

/-- Device `c` runs `p` to the postcondition. -/
abbrev WP (c : Dev nD) (p : Pr (F := F)) (Q : PUnit → sProp 𝕄) : sProp 𝕄 :=
  wp frame (wpE (defs₀ (F := F)) 𝒱₀ (c : Thread nD τ) none) Set.univ p Q

variable (m : (ℓ : Loc nD τ sig) → Buf (Elt F) ℓ) (K : GSem nD τ sig → ℕ) (c : Dev nD)

/-! ## Instructions -/

section Instr

variable {s : Shape} {e : EltTy}

/-- Reading a rectangle of a view whose contents are known. -/
theorem run_load {cs : CoreSpace} (b : Memref sig .tc cs s e) (r : Rect s) (hl : b.view.LoadsAt r.toLoadRect) (X : s.Idx → Elt F e)
    (k : (r.shape.Idx → Elt F e) → Pr (F := F)) (Q : PUnit → sProp 𝕄) :
    iprop(has b.view c X ∗ (has b.view c X -∗ WP c (k fun x => X (r.emb x)) Q)) ⊢ WP c (.op (.load b r.toLoadRect hl) k) Q := by
  unfold has
  iintro ⟨⟨%f, H, %hf⟩, Hk⟩
  iapply (wp_load_rect 𝒱₀ (c : Thread nD τ) none Set.univ (m := b) (r := r) (S := b.view.set) (q := fullShare) (f := f)
    (b.view.set_slice_subset r)) $$ H
  iintro H
  rw [show (b.access r).read (Elt F) f = fun x => X (r.emb x) from funext fun x => congrFun hf (r.emb x)]
  iapply Hk
  iexists f; isplitl; · iexact H
  ipureintro; exact hf

/-- Reading exactly a chunk whose contents are known. -/
theorem run_loadC {cs : CoreSpace} (b : Memref sig .tc cs s e) (r : Rect s) (hl : b.view.LoadsAt r.toLoadRect) (X : r.shape.Idx → Elt F e)
    (k : (r.shape.Idx → Elt F e) → Pr (F := F)) (Q : PUnit → sProp 𝕄) :
    iprop(has (b.access r) c X ∗ (has (b.access r) c X -∗ WP c (k X) Q)) ⊢ WP c (.op (.load b r.toLoadRect hl) k) Q := by
  unfold has
  iintro ⟨⟨%f, H, %hf⟩, Hk⟩
  iapply (wp_load_rect 𝒱₀ (c : Thread nD τ) none Set.univ (m := b) (r := r) (S := (b.access r).set) (q := fullShare) (f := f)
    (Finset.Subset.refl _)) $$ H
  iintro H
  rw [hf]
  iapply Hk
  iexists f; isplitl; · iexact H
  ipureintro; exact hf

/-- Reading a chunk and dropping what was read. -/
theorem run_dead {cs : CoreSpace} (b : Memref sig .tc cs s e) (r : Rect s) (hl : b.view.LoadsAt r.toLoadRect)
    (p : Pr (F := F)) (Q : PUnit → sProp 𝕄) :
    iprop(own (b.access r) c ∗ (own (b.access r) c -∗ WP c p Q)) ⊢ WP c (.op (.load b r.toLoadRect hl) fun _ => p) Q := by
  unfold own
  iintro ⟨⟨%f, H⟩, Hk⟩
  iapply (wp_load_rect 𝒱₀ (c : Thread nD τ) none Set.univ (m := b) (r := r) (S := (b.access r).set) (q := fullShare) (f := f)
    (Finset.Subset.refl _)) $$ H
  iintro H
  iapply Hk
  iexists f; iexact H

/-- Writing a whole chunk: it then reads what was written. -/
theorem run_store {cs : CoreSpace} (b : Memref sig .tc cs s e) (r : Rect s) (w : r.shape.Idx → Elt F e)
    (hx : (b.access r).Stores Finset.univ) (hm : (Finset.univ : Finset r.shape.Idx) = Finset.univ ∨ ∀ a, r.stride a = 1)
    (p : Pr (F := F)) (Q : PUnit → sProp 𝕄) :
    iprop(own (b.access r) c ∗ (has (b.access r) c w -∗ WP c p Q)) ⊢ WP c (.op (.store b r w Finset.univ hx hm) fun _ => p) Q := by
  unfold own has
  iintro ⟨⟨%f, H⟩, Hk⟩
  iapply (wp_store 𝒱₀ (c : Thread nD τ) none Set.univ (m := b) (r := r) (S := (b.access r).set) (f := f)
    (Finset.Subset.refl _)) $$ H
  iintro H
  iapply Hk
  iexists _; isplitl; · iexact H
  ipureintro; exact View.read_write_univ _ _

variable {sp sp' : Space}

/-- What a landed copy leaves reads what was sent. -/
theorem landed_has (v : View sig .tc sp s e) (f : Buf (Elt F) (v.loc (c : Thread nD τ))) (w X : s.Idx → Elt F e) (h : w = X) :
    (v.loc (c : Thread nD τ) ↦[v.set]{fullShare} v.write (Elt F) f w Finset.univ) ⊢ (has v c X : sProp 𝕄) := by
  unfold has
  iintro H
  iexists _; isplitl; · iexact H
  ipureintro; rw [View.read_write_univ, h]

/-- Contents that read `X`. -/
theorem pts_has (v : View sig .tc sp s e) (f : Buf (Elt F) (v.loc (c : Thread nD τ))) (X : s.Idx → Elt F e) (h : v.read (Elt F) f = X) :
    (v.loc (c : Thread nD τ) ↦[v.set]{fullShare} f) ⊢ (has v c X : sProp 𝕄) := by
  unfold has
  iintro H
  iexists f; isplitl; · iexact H
  ipureintro; exact h

/-- Waiting for the one transfer of a cell: what its landing hands over arrives. -/
theorem run_wait (i : KI) (q : DmaSem sig) (hq : q = ksem i) (src : Memref sig .tc sp s e) (dst : Memref sig .tc sp' s e)
    (h₁ : src.view.WordExact) (h₂ : dst.view.WordExact) (N : ℕ) (hi : amt i = N) (hN : dst.view.dmaCredit = N)
    (n : ℕ) (O : CellTallies nD τ sig Unit) (hO : Above n O) (hl : klv i ≤ n) (p : Pr (F := F)) (Q : PUnit → sProp 𝕄) :
    iprop(IV m K ∗ levAts L lv ∗ cred (tallyAt (dcell c i) () N) ∗ (∃ W, owes (c : Thread nD τ) O W) ∗ atPos ER (dcell c i) 0 ∅ 0
        ∗ ((∃ W, owes (c : Thread nD τ) O W) -∗ atPos ER (dcell c i) 1 ∅ 0 -∗ payD m c i -∗ WP c p Q))
      ⊢ WP c (.op (.waitDma2 q src dst h₁ h₂) fun _ => p) Q := by
  subst hq
  subst hN
  iintro ⟨#HI, #Hlev, Hc, ⟨%W, HO⟩, Hat, Hk⟩
  iapply (Rounds.wp_wait_rest_token 𝒱₀ ER (rd m) (c : Thread nD τ) none (κ := K (dcell c i))
      (wpE_waitDma2_eq 𝒱₀ (c : Thread nD τ) none Set.univ) (Set.mem_univ _) () (O := O) (W := W) (R := 0) (m := 0) (T := ∅)
      ((Nat.zero_add _).trans (hi.symm.trans (expect_dma m c i).symm))) $$ [Hc HO Hat]
  · isplitr; · iapply (IV_dma m K c i); iexact HI
    isplitl [Hc]; · iexact Hc
    isplitl [HO]; · iexact HO
    isplitr; · iapply (mayWait c _ n O hO (by rw [lv_dma]; exact hl)); iexact Hlev
    iexact Hat
  iintro ⟨HO, Hat, -, Hpay⟩
  ihave Hp := (Entails.of_eq (rest_dma m c i)) $$ Hpay
  iapply Hk $$ [HO] [Hat] [Hp]
  · iexists _; iexact HO
  · iexact Hat
  · iexact Hp

/-- Starting a copy on the device itself. -/
theorem run_copy (i : KI) (q : DmaSem sig) (hq : q = ksem i) (src : Memref sig .tc sp s e) (dst : Memref sig .tc sp' s e)
    (h₁ : src.view.WordExact) (h₂ : dst.view.WordExact) (h₃ : DmaTarget.Typed (nD := nD) (τ := τ) sp (.dma q) (.here (p := .tc) dst)) (X : s.Idx → Elt F e)
    (N : ℕ) (hi : amt i = N) (hN : dst.view.dmaCredit = N)
    (hpay : iprop(has dst.view c X ∗ has src.view c X) ⊢ payD m c i) (p : Pr (F := F)) (Q : PUnit → sProp 𝕄) :
    iprop(IV m K ∗ has src.view c X ∗ own dst.view c ∗ dutyTok ER (dcell c i) 0 false ∗ reached ER (dcell c i) 0
        ∗ (cred (tallyAt (dcell c i) () N) -∗ WP c p Q))
      ⊢ WP c (.op (.enqueueDma src (.here dst) (.dma q) h₁ h₂ h₃) fun _ => p) Q := by
  subst hq
  conv => lhs; unfold has own
  iintro ⟨#HI, ⟨%fs, HX, %hfs⟩, ⟨%fd, Hd⟩, Ht, Hr, Hk⟩
  iapply (Rounds.wp_copy_pointsTo 𝒱₀ ER (rd m) (c : Thread nD τ) none (src := src) (dst := dst) (sem := .dma (ksem i)) (q := fullShare)
      (fs := fs) (fd := fd) (r := 0) (d := false) (κ := K (dcell c i))
      (by rw [duties_dma]; exact Finset.mem_singleton_self _) () N hN ((amount_dma m c i false).trans hi)
      (by
        rw [payload_dma]
        exact (BIClass.sep_mono (landed_has c _ _ _ _ hfs) (pts_has c _ _ _ hfs)).trans hpay)) $$ [HX Hd Ht Hr]
  · isplitr; · iapply (IV_dma m K c i); iexact HI
    isplitl [HX]; · iexact HX
    isplitl [Hd]; · iexact Hd
    isplitl [Ht]; · iexact Ht
    iexact Hr
  iexact Hk

/-- Starting a copy to another device, whose arrival is owed there. -/
theorem run_send (c' : Dev nD) (i₁ i₂ : KI) (q₁ q₂ : DmaSem sig) (hq₁ : q₁ = ksem i₁) (hq₂ : q₂ = ksem i₂)
    (src : Memref sig .tc sp s e) (dst : Memref sig .tc sp' s e) (hsc : dst.view.ref.isScScratch = false)
    (h₁ : src.view.WordExact) (h₂ : dst.view.WordExact)
    (h₃ : DmaTarget.Typed (nD := nD) (τ := τ) sp (.dma q₂) (.remote (p := .tc) (Dev.tc c') dst (.dma q₁) hsc)) (X : s.Idx → Elt F e)
    (N : ℕ) (hi₁ : amt i₁ = N) (hi₂ : amt i₂ = N) (hN : dst.view.dmaCredit = N) (O : CellTallies nD τ sig Unit)
    (hp₁ : has src.view c X ⊢ payD m c i₁) (hp₂ : has dst.view c' X ⊢ payD m c' i₂) (p : Pr (F := F)) (Q : PUnit → sProp 𝕄) :
    iprop(IV m K ∗ has src.view c X ∗ own dst.view c' ∗ (∃ W, owes (c : Thread nD τ) (O + tallyAt (dcell c' i₂) () N) W)
        ∗ dutyTok ER (dcell c i₁) 0 false ∗ reached ER (dcell c i₁) 0 ∗ dutyTok ER (dcell c' i₂) 0 false ∗ reached ER (dcell c' i₂) 0
        ∗ (cred (tallyAt (dcell c i₁) () N) -∗ (∃ W, owes (c : Thread nD τ) O W) -∗ WP c p Q))
      ⊢ WP c (.op (.enqueueDma src (.remote (Dev.tc c') dst (.dma q₁) hsc) (.dma q₂) h₁ h₂ h₃) fun _ => p) Q := by
  subst hq₁ hq₂
  conv => lhs; unfold has own
  iintro ⟨#HI, ⟨%fs, HX, %hfs⟩, ⟨%fd, Hd⟩, ⟨%W, HO⟩, Ht₁, Hr₁, Ht₂, Hr₂, Hk⟩
  iapply (Rounds.wp_send_pointsTo 𝒱₀ ER (rd m) (c : Thread nD τ) none (c' := (c' : Thread nD τ)) (src := src) (dst := dst)
      (sS := .dma (ksem i₁)) (sem := .dma (ksem i₂)) (q := fullShare) (fs := fs) (κ₁ := K (dcell c i₁)) (κ₂ := K (dcell c' i₂))
      (r₁ := 0) (r₂ := 0) (d₁ := false) (d₂ := false) (fd := fd)
      (by rw [duties_dma]; exact Finset.mem_singleton_self _) (by rw [duties_dma]; exact Finset.mem_singleton_self _)
      () () N hN ((amount_dma m c i₁ false).trans hi₁) ((amount_dma m c' i₂ false).trans hi₂) O rfl (W := W)
      (by
        rw [payload_dma]
        exact (pts_has c _ _ _ hfs).trans hp₁)
      (by
        rw [payload_dma]
        exact (landed_has c' _ _ _ _ hfs).trans hp₂)) $$ [HX Hd HO Ht₁ Hr₁ Ht₂ Hr₂]
  · isplitr; · iapply (IV_dma m K c i₁); iexact HI
    isplitr; · iapply (IV_dma m K c' i₂); iexact HI
    isplitl [HX]; · iexact HX
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk $$ [Hc] [HO]
  · iexact Hc
  · iexists W; iexact HO

end Instr

end Cert.Talk

end
-- ==== Proof.Chunks.lean ====
/-
  The kinds of chunk steps, each run once at a symbolic device and chunk, and the fold over the chunks.
-/
module

public import proofs.«01_k».proof.Proof.Steps

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## Folding a step over a list of chunks -/

/-- The separating conjunction over a list. -/
def sepL {I : Type} (A : I → sProp 𝕄) : List I → sProp 𝕄
  | [] => iprop(emp)
  | k :: l => iprop(A k ∗ sepL A l)

theorem sepL_eq {I : Type} [DecidableEq I] (A : I → sProp 𝕄) : ∀ l : List I, l.Nodup → sepL A l = bigSep l.toFinset A
  | [], _ => BI.bigSep_empty.symm
  | k :: l, h => by
    rw [List.toFinset_cons, bigSep_insert (by rw [List.mem_toFinset]; exact (List.nodup_cons.mp h).1), sepL, sepL_eq A l (List.nodup_cons.mp h).2]
    rfl

theorem sepL_chunks (A : Fin 8 → sProp 𝕄) : sepL A chunks = bigSep Finset.univ A := by
  rw [sepL_eq A chunks (by decide), show chunks.toFinset = Finset.univ by decide]

/-- A step that turns `A k` into `B k` for each chunk, keeping `C` and paying what it owes from `O (k :: l)` down to `O l`,
    runs over the whole list. -/
theorem run_foldr (step : Fin 8 → Pr (F := F) → Pr (F := F)) (Q : PUnit → sProp 𝕄) (A B : Fin 8 → sProp 𝕄) (C : sProp 𝕄)
    (O : List (Fin 8) → CellTallies nD τ sig Unit)
    (h : ∀ k l p, iprop(A k ∗ C ∗ (∃ W, owes (c : Thread nD τ) (O (k :: l)) W)
        ∗ (B k -∗ C -∗ (∃ W, owes (c : Thread nD τ) (O l) W) -∗ WP c p Q)) ⊢ WP c (step k p) Q) :
    ∀ (l : List (Fin 8)) (p : Pr (F := F)), iprop(sepL A l ∗ C ∗ (∃ W, owes (c : Thread nD τ) (O l) W)
        ∗ (sepL B l -∗ C -∗ (∃ W, owes (c : Thread nD τ) (O []) W) -∗ WP c p Q)) ⊢ WP c (l.foldr step p) Q
  | [], p => by
    unfold sepL
    iintro ⟨HA, HC, HO, Hk⟩
    iapply Hk $$ [HA] [HC] [HO]
    · iexact HA
    · iexact HC
    · iexact HO
  | k :: l, p => by
    rw [List.foldr_cons, sepL, sepL]
    iintro ⟨⟨HA, Hl⟩, HC, HO, Hk⟩
    iapply (h k l _)
    isplitl [HA]; · iexact HA
    isplitl [HC]; · iexact HC
    isplitl [HO]; · iexact HO
    iintro HB HC HO
    iapply (run_foldr step Q A B C O h l p)
    isplitl [Hl]; · iexact Hl
    isplitl [HC]; · iexact HC
    isplitl [HO]; · iexact HO
    iintro HBl HC HO
    iapply Hk $$ [HB HBl] [HC] [HO]
    · isplitl [HB]; · iexact HB
      iexact HBl
    · iexact HC
    · iexact HO

/-! ## Credits and views -/

theorem amt_in (i : Fin 2) : amt (.inl i) = Nin := rfl
theorem amt0 (k : Fin 8) : amt (.inr (0, k)) = Nout := rfl
theorem amt1 (k : Fin 8) : amt (.inr (1, k)) = Nout := rfl
theorem amt2 (k : Fin 8) : amt (.inr (2, k)) = Nch := rfl
theorem amt3 (k : Fin 8) : amt (.inr (3, k)) = Nch := rfl
theorem amt4 (k : Fin 8) : amt (.inr (4, k)) = Nch := rfl
theorem amt5 (k : Fin 8) : amt (.inr (5, k)) = Nch := rfl

theorem cr_S1 (k : Fin 8) : (ch mS1 k).view.dmaCredit = Nch := by unfold Nch; rfl
theorem cr_R1 (k : Fin 8) : (ch mR1 k).view.dmaCredit = Nch := by unfold Nch; rfl
theorem cr_S2 (k : Fin 8) : (ch mS2 k).view.dmaCredit = Nch := by unfold Nch; rfl
theorem cr_R2 (k : Fin 8) : (ch mR2 k).view.dmaCredit = Nch := by unfold Nch; rfl
theorem cr_own (d : Dev nD) (k : Fin 8) : (ownO d k).view.dmaCredit = Nout := by unfold Nout; rfl
theorem cr_oth (d : Dev nD) (k : Fin 8) : (othO d k).view.dmaCredit = Nout := by unfold Nout; rfl

/-- Rectangles of 64 rows at equal offsets cut the same view. -/
theorem slice_off {sp : Space} (v : View sig .tc sp S1024x1024 .f32) {off off' : Fin 2 → Nat} (h : off = off')
    (p : ∀ a, off a + S64x1024.size a ≤ S1024x1024.size a) (p' : ∀ a, off' a + S64x1024.size a ≤ S1024x1024.size a) :
    v.slice (Rect.unit (s := S1024x1024) off S64x1024.size p) = v.slice (Rect.unit (s := S1024x1024) off' S64x1024.size p') := by
  subst h; rfl
theorem ownS_view (d : Dev nD) (k : Fin 8) : (ownS d k).view = mSt.access (ownR d k) :=
  slice_off _ ((k0_off4_eq d k).trans (k0_off3_eq d k).symm) _ _
theorem othS_view (d : Dev nD) (k : Fin 8) : (othS d k).view = mSt.access (othR d k) :=
  slice_off _ ((k0_off6_eq d k).trans (k0_off5_eq d k).symm) _ _

theorem pay_my : payD m c (.inl 0) = iprop(has mMy.view c (myB m c) ∗ inp (pMy c) c (V m c main_v1)) := rfl
theorem pay_peer : payD m c (.inl 1) = iprop(has mPeer.view c (peerB m c) ∗ inp (pPeer c) c (V m c main_v1)) := rfl
theorem pay0 (k : Fin 8) : payD m c (.inr (0, k)) = iprop(has (ownO c k).view c (N32 m c k) ∗ own (ownS c k).view c) := rfl
theorem pay1 (k : Fin 8) : payD m c (.inr (1, k)) = iprop(has (othO c k).view c (W32 m c k) ∗ own (othS c k).view c) := rfl
theorem pay2 (k : Fin 8) : payD m c (.inr (2, k)) = own (ch mS1 k).view c := rfl
theorem pay3 (k : Fin 8) : payD m c (.inr (3, k)) = has (ch mR1 k).view c (sent m (yp c) k) := rfl
theorem pay4 (k : Fin 8) : payD m c (.inr (4, k)) = own (ch mS2 k).view c := rfl
theorem pay5 (k : Fin 8) : payD m c (.inr (5, k)) = has (ch mR2 k).view c (N16 m (xp c) k) := rfl

/-! ## Sending the partial sums -/

/-- Before chunk `k` is sent: its slot, the neighbour's landing slot, the two tokens. -/
def A1 (k : Fin 8) : sProp 𝕄 :=
  iprop(own (ch mS1 k).view c ∗ own (ch mR1 k).view (yp c) ∗ dutyTok ER (dcell c (.inr (2, k))) 0 false ∗ reached ER (dcell c (.inr (2, k))) 0
    ∗ dutyTok ER (dcell (yp c) (.inr (3, k))) 0 false ∗ reached ER (dcell (yp c) (.inr (3, k))) 0)
/-- After: the credit to wait for its departure. -/
def B1 (k : Fin 8) : sProp 𝕄 := cred (tallyAt (dcell c (.inr (2, k))) () Nch)
/-- Held throughout: the rows to hand over. -/
def C1 : sProp 𝕄 := iprop(IV m K ∗ has mPeer.view c (peerB m c))

theorem run1 (Q : PUnit → sProp 𝕄) (k : Fin 8) (l : List (Fin 8)) (p : Pr (F := F)) :
    iprop(A1 c k ∗ C1 m K c ∗ (∃ W, owes (c : Thread nD τ) (owe5 c chunks + owe3 c (k :: l)) W)
        ∗ (B1 c k -∗ C1 m K c -∗ (∃ W, owes (c : Thread nD τ) (owe5 c chunks + owe3 c l) W) -∗ WP c p Q)) ⊢ WP c (step1 c k p) Q := by
  unfold A1 B1 C1 step1
  rw [owe3, ← add_assoc]
  iintro ⟨⟨HS, HR, Ht2, #Hr2, Ht3, #Hr3⟩, ⟨#HI, HP⟩, HO, Hk⟩
  iapply (run_load c mPeer (rowR k) _ (peerB m c) _ Q)
  isplitl [HP]; · iexact HP
  iintro HP
  iapply (run_dead c mS1 (rowR k) _ _ Q)
  isplitl [HS]; · iexact HS
  iintro HS
  iapply (run_store c mS1 (rowR k) (sent m c k) _ _ _ Q)
  isplitl [HS]; · iexact HS
  iintro HS
  iapply (run_send m K c (yp c) (.inr (2, k)) (.inr (3, k)) (gs 2 k) (gs 3 k) rfl rfl (ch mS1 k) (ch mR1 k) rfl _ _ _ (sent m c k)
    Nch (amt2 k) (amt3 k) (cr_R1 k) _ (has_own _ _ _)
    (show has (ch mR1 k).view (yp c) (sent m c k) ⊢ has (ch mR1 k).view (yp c) (sent m (yp (yp c)) k) by rw [yp_yp]) _ Q)
  isplitr; · iexact HI
  isplitl [HS]; · iexact HS
  isplitl [HR]; · iexact HR
  isplitl [HO]; · iexact HO
  isplitl [Ht2]; · iexact Ht2
  isplitr; · iexact Hr2
  isplitl [Ht3]; · iexact Ht3
  isplitr; · iexact Hr3
  iintro Hc HO
  iapply Hk $$ [Hc] [HP] [HO]
  · iexact Hc
  · isplitr; · iexact HI
    iexact HP
  · iexact HO

/-! ## The own half -/

/-- Before chunk `k` of the own half. -/
def A2 (k : Fin 8) : sProp 𝕄 :=
  iprop(cred (tallyAt (dcell c (.inr (3, k))) () Nch) ∗ atPos ER (dcell c (.inr (3, k))) 0 ∅ 0
    ∗ own (ch mS2 k).view c ∗ own (ownS c k).view c ∗ own (ownO c k).view c ∗ own (ch mR2 k).view (xp c)
    ∗ dutyTok ER (dcell c (.inr (4, k))) 0 false ∗ reached ER (dcell c (.inr (4, k))) 0
    ∗ dutyTok ER (dcell (xp c) (.inr (5, k))) 0 false ∗ reached ER (dcell (xp c) (.inr (5, k))) 0
    ∗ dutyTok ER (dcell c (.inr (0, k))) 0 false ∗ reached ER (dcell c (.inr (0, k))) 0)
/-- After: the landing slot back, its cell's round over, the credits of the two transfers. -/
def B2 (k : Fin 8) : sProp 𝕄 :=
  iprop(own (ch mR1 k).view c ∗ atPos ER (dcell c (.inr (3, k))) 1 ∅ 0
    ∗ cred (tallyAt (dcell c (.inr (4, k))) () Nch) ∗ cred (tallyAt (dcell c (.inr (0, k))) () Nout))
/-- Held throughout: the rows kept and the weight row. -/
def C2 : sProp 𝕄 := iprop(IV m K ∗ levAts L lv ∗ has mMy.view c (myB m c) ∗ has mG.view c (gamB m c))

theorem run2 (Q : PUnit → sProp 𝕄) (k : Fin 8) (l : List (Fin 8)) (p : Pr (F := F)) :
    iprop(A2 c k ∗ C2 m K c ∗ (∃ W, owes (c : Thread nD τ) (owe5 c (k :: l)) W)
        ∗ (B2 c k -∗ C2 m K c -∗ (∃ W, owes (c : Thread nD τ) (owe5 c l) W) -∗ WP c p Q)) ⊢ WP c (step2 c k p) Q := by
  unfold A2 B2 C2 step2
  rw [ownS_view]
  iintro ⟨⟨Hc3, Ha3, HS, HT, HD, HR, Ht4, #Hr4, Ht5, #Hr5, Ht0, #Hr0⟩, ⟨#HI, #Hlev, HM, HG⟩, HO, Hk⟩
  iapply (run_wait m K c (.inr (3, k)) (gs 3 k) rfl (ch mS1 k) (ch mR1 k) _ _ Nch (amt3 k) (cr_R1 k) 2 _
    (above_owe5 c (by decide) (k :: l)) (Nat.le_refl 2) _ Q)
  isplitr; · iexact HI
  isplitr; · iexact Hlev
  isplitl [Hc3]; · iexact Hc3
  isplitl [HO]; · iexact HO
  isplitl [Ha3]; · iexact Ha3
  rw [pay3]
  iintro HO Ha3 HL
  iapply (run_load c mMy (rowR k) _ (myB m c) _ Q)
  isplitl [HM]; · iexact HM
  iintro HM
  iapply (run_loadC c mR1 (rowR k) _ (sent m (yp c) k) _ Q)
  isplitl [HL]; · iexact HL
  iintro HL
  iapply (run_load c mG _ _ (gamB m c) _ Q)
  isplitl [HG]; · iexact HG
  iintro HG
  iapply (run_dead c mS2 (rowR k) _ _ Q)
  isplitl [HS]; · iexact HS
  iintro HS
  iapply (run_store c mS2 (rowR k) (N16 m c k) _ _ _ Q)
  isplitl [HS]; · iexact HS
  iintro HS
  iapply (run_dead c mSt (ownR c k) _ _ Q)
  isplitl [HT]; · iexact HT
  iintro HT
  iapply (run_store c mSt (ownR c k) (N32 m c k) _ _ _ Q)
  isplitl [HT]; · iexact HT
  iintro HT
  rw [owe5]
  iapply (run_send m K c (xp c) (.inr (4, k)) (.inr (5, k)) (gs 4 k) (gs 5 k) rfl rfl (ch mS2 k) (ch mR2 k) rfl _ _ _ (N16 m c k)
    Nch (amt4 k) (amt5 k) (cr_R2 k) _ (has_own _ _ _)
    (show has (ch mR2 k).view (xp c) (N16 m c k) ⊢ has (ch mR2 k).view (xp c) (N16 m (xp (xp c)) k) by rw [xp_xp]) _ Q)
  isplitr; · iexact HI
  isplitl [HS]; · iexact HS
  isplitl [HR]; · iexact HR
  isplitl [HO]; · iexact HO
  isplitl [Ht4]; · iexact Ht4
  isplitr; · iexact Hr4
  isplitl [Ht5]; · iexact Ht5
  isplitr; · iexact Hr5
  iintro Hc4 HO
  iapply (run_copy m K c (.inr (0, k)) (gs 0 k) rfl (ownS c k) (ownO c k) _ _ _ (N32 m c k)
    Nout (amt0 k) (cr_own c k)
    (show iprop(has (ownO c k).view c (N32 m c k) ∗ has (ownS c k).view c (N32 m c k)) ⊢ iprop(has (ownO c k).view c (N32 m c k) ∗ own (ownS c k).view c)
      from BIClass.sep_mono (BI.Entails.refl _) (has_own _ _ _)) _ Q)
  rw [ownS_view]
  isplitr; · iexact HI
  isplitl [HT]; · iexact HT
  isplitl [HD]; · iexact HD
  isplitl [Ht0]; · iexact Ht0
  isplitr; · iexact Hr0
  iintro Hc0
  iapply Hk $$ [HL Ha3 Hc4 Hc0] [HM HG] [HO]
  · isplitl [HL]; · iapply (has_own (ch mR1 k).view c (sent m (yp c) k)); iexact HL
    isplitl [Ha3]; · iexact Ha3
    isplitl [Hc4]; · iexact Hc4
    iexact Hc0
  · isplitr; · iexact HI
    isplitr; · iexact Hlev
    isplitl [HM]; · iexact HM
    iexact HG
  · iexact HO

/-! ## The other half -/

/-- Before chunk `k` of the other half. -/
def A3 (k : Fin 8) : sProp 𝕄 :=
  iprop(cred (tallyAt (dcell c (.inr (5, k))) () Nch) ∗ atPos ER (dcell c (.inr (5, k))) 0 ∅ 0
    ∗ own (othS c k).view c ∗ own (othO c k).view c
    ∗ dutyTok ER (dcell c (.inr (1, k))) 0 false ∗ reached ER (dcell c (.inr (1, k))) 0)
/-- After. -/
def B3 (k : Fin 8) : sProp 𝕄 :=
  iprop(own (ch mR2 k).view c ∗ atPos ER (dcell c (.inr (5, k))) 1 ∅ 0 ∗ cred (tallyAt (dcell c (.inr (1, k))) () Nout))
/-- Held throughout the waits. -/
def C3 : sProp 𝕄 := iprop(IV m K ∗ levAts L lv)

theorem run3 (Q : PUnit → sProp 𝕄) (k : Fin 8) (p : Pr (F := F)) :
    iprop(A3 c k ∗ C3 m K ∗ (∃ W, owes (c : Thread nD τ) (0 : CellTallies nD τ sig Unit) W)
        ∗ (B3 c k -∗ C3 m K -∗ (∃ W, owes (c : Thread nD τ) (0 : CellTallies nD τ sig Unit) W) -∗ WP c p Q)) ⊢ WP c (step3 c k p) Q := by
  unfold A3 B3 C3 step3
  rw [othS_view]
  iintro ⟨⟨Hc5, Ha5, HT, HD, Ht1, #Hr1⟩, ⟨#HI, #Hlev⟩, HO, Hk⟩
  iapply (run_wait m K c (.inr (5, k)) (gs 5 k) rfl (ch mS2 k) (ch mR2 k) _ _ Nch (amt5 k) (cr_R2 k) 3 0
    (above_zero 3) (Nat.le_refl 3) _ Q)
  isplitr; · iexact HI
  isplitr; · iexact Hlev
  isplitl [Hc5]; · iexact Hc5
  isplitl [HO]; · iexact HO
  isplitl [Ha5]; · iexact Ha5
  rw [pay5]
  iintro HO Ha5 HL
  iapply (run_loadC c mR2 (rowR k) _ (N16 m (xp c) k) _ Q)
  isplitl [HL]; · iexact HL
  iintro HL
  iapply (run_dead c mSt (othR c k) _ _ Q)
  isplitl [HT]; · iexact HT
  iintro HT
  iapply (run_store c mSt (othR c k) (W32 m c k) _ _ _ Q)
  isplitl [HT]; · iexact HT
  iintro HT
  iapply (run_copy m K c (.inr (1, k)) (gs 1 k) rfl (othS c k) (othO c k) _ _ _ (W32 m c k)
    Nout (amt1 k) (cr_oth c k)
    (show iprop(has (othO c k).view c (W32 m c k) ∗ has (othS c k).view c (W32 m c k)) ⊢ iprop(has (othO c k).view c (W32 m c k) ∗ own (othS c k).view c)
      from BIClass.sep_mono (BI.Entails.refl _) (has_own _ _ _)) _ Q)
  rw [othS_view]
  isplitr; · iexact HI
  isplitl [HT]; · iexact HT
  isplitl [HD]; · iexact HD
  isplitl [Ht1]; · iexact Ht1
  isplitr; · iexact Hr1
  iintro Hc1
  iapply Hk $$ [HL Ha5 Hc1] [] [HO]
  · isplitl [HL]; · iapply (has_own (ch mR2 k).view c (N16 m (xp c) k)); iexact HL
    isplitl [Ha5]; · iexact Ha5
    iexact Hc1
  · isplitr; · iexact HI
    iexact Hlev
  · iexact HO

/-! ## The last waits -/

/-- Before the two departures of chunk `k` are awaited, -/
def A4 (k : Fin 8) : sProp 𝕄 :=
  iprop((cred (tallyAt (dcell c (.inr (2, k))) () Nch) ∗ atPos ER (dcell c (.inr (2, k))) 0 ∅ 0)
    ∗ (cred (tallyAt (dcell c (.inr (4, k))) () Nch) ∗ atPos ER (dcell c (.inr (4, k))) 0 ∅ 0))
/-- and after: both slots back. -/
def B4 (k : Fin 8) : sProp 𝕄 :=
  iprop((own (ch mS1 k).view c ∗ atPos ER (dcell c (.inr (2, k))) 1 ∅ 0) ∗ (own (ch mS2 k).view c ∗ atPos ER (dcell c (.inr (4, k))) 1 ∅ 0))

theorem run4 (Q : PUnit → sProp 𝕄) (k : Fin 8) (p : Pr (F := F)) :
    iprop(A4 c k ∗ C3 m K ∗ (∃ W, owes (c : Thread nD τ) (0 : CellTallies nD τ sig Unit) W)
        ∗ (B4 c k -∗ C3 m K -∗ (∃ W, owes (c : Thread nD τ) (0 : CellTallies nD τ sig Unit) W) -∗ WP c p Q)) ⊢ WP c (step4 k p) Q := by
  unfold A4 B4 C3 step4
  iintro ⟨⟨⟨Hc2, Ha2⟩, ⟨Hc4, Ha4⟩⟩, ⟨#HI, #Hlev⟩, HO, Hk⟩
  iapply (run_wait m K c (.inr (2, k)) (gs 2 k) rfl (ch mR1 k) (ch mS1 k) _ _ Nch (amt2 k) (cr_S1 k) 0 0 (above_zero 0) (Nat.le_refl 0) _ Q)
  isplitr; · iexact HI
  isplitr; · iexact Hlev
  isplitl [Hc2]; · iexact Hc2
  isplitl [HO]; · iexact HO
  isplitl [Ha2]; · iexact Ha2
  rw [pay2]
  iintro HO Ha2 H2
  iapply (run_wait m K c (.inr (4, k)) (gs 4 k) rfl (ch mR2 k) (ch mS2 k) _ _ Nch (amt4 k) (cr_S2 k) 0 0 (above_zero 0) (Nat.le_refl 0) _ Q)
  isplitr; · iexact HI
  isplitr; · iexact Hlev
  isplitl [Hc4]; · iexact Hc4
  isplitl [HO]; · iexact HO
  isplitl [Ha4]; · iexact Ha4
  rw [pay4]
  iintro HO Ha4 H4
  iapply Hk $$ [H2 Ha2 H4 Ha4] [] [HO]
  · isplitl [H2 Ha2]
    · isplitl [H2]; · iexact H2
      iexact Ha2
    · isplitl [H4]; · iexact H4
      iexact Ha4
  · isplitr; · iexact HI
    iexact Hlev
  · iexact HO

/-- Before the copy of chunk `k` of the own half is awaited, -/
def A5 (k : Fin 8) : sProp 𝕄 := iprop(cred (tallyAt (dcell c (.inr (0, k))) () Nout) ∗ atPos ER (dcell c (.inr (0, k))) 0 ∅ 0)
/-- and after: the chunk of the result, and the staging chunk back. -/
def B5 (k : Fin 8) : sProp 𝕄 :=
  iprop((has (ownO c k).view c (N32 m c k) ∗ own (ownS c k).view c) ∗ atPos ER (dcell c (.inr (0, k))) 1 ∅ 0)

theorem run5 (Q : PUnit → sProp 𝕄) (k : Fin 8) (p : Pr (F := F)) :
    iprop(A5 c k ∗ C3 m K ∗ (∃ W, owes (c : Thread nD τ) (0 : CellTallies nD τ sig Unit) W)
        ∗ (B5 m c k -∗ C3 m K -∗ (∃ W, owes (c : Thread nD τ) (0 : CellTallies nD τ sig Unit) W) -∗ WP c p Q)) ⊢ WP c (step5 c k p) Q := by
  unfold A5 B5 C3 step5
  iintro ⟨⟨Hc0, Ha0⟩, ⟨#HI, #Hlev⟩, HO, Hk⟩
  iapply (run_wait m K c (.inr (0, k)) (gs 0 k) rfl (ownS c k) (ownO c k) _ _ Nout (amt0 k) (cr_own c k) 0 0 (above_zero 0) (Nat.le_refl 0) _ Q)
  isplitr; · iexact HI
  isplitr; · iexact Hlev
  isplitl [Hc0]; · iexact Hc0
  isplitl [HO]; · iexact HO
  isplitl [Ha0]; · iexact Ha0
  rw [pay0]
  iintro HO Ha0 H0
  iapply Hk $$ [H0 Ha0] [] [HO]
  · isplitl [H0]; · iexact H0
    iexact Ha0
  · isplitr; · iexact HI
    iexact Hlev
  · iexact HO

/-- Before the copy of chunk `k` of the other half is awaited, -/
def A6 (k : Fin 8) : sProp 𝕄 := iprop(cred (tallyAt (dcell c (.inr (1, k))) () Nout) ∗ atPos ER (dcell c (.inr (1, k))) 0 ∅ 0)
/-- and after. -/
def B6 (k : Fin 8) : sProp 𝕄 :=
  iprop((has (othO c k).view c (W32 m c k) ∗ own (othS c k).view c) ∗ atPos ER (dcell c (.inr (1, k))) 1 ∅ 0)

theorem run6 (Q : PUnit → sProp 𝕄) (k : Fin 8) (p : Pr (F := F)) :
    iprop(A6 c k ∗ C3 m K ∗ (∃ W, owes (c : Thread nD τ) (0 : CellTallies nD τ sig Unit) W)
        ∗ (B6 m c k -∗ C3 m K -∗ (∃ W, owes (c : Thread nD τ) (0 : CellTallies nD τ sig Unit) W) -∗ WP c p Q)) ⊢ WP c (step6 c k p) Q := by
  unfold A6 B6 C3 step6
  iintro ⟨⟨Hc1, Ha1⟩, ⟨#HI, #Hlev⟩, HO, Hk⟩
  iapply (run_wait m K c (.inr (1, k)) (gs 1 k) rfl (othS c k) (othO c k) _ _ Nout (amt1 k) (cr_oth c k) 0 0 (above_zero 0) (Nat.le_refl 0) _ Q)
  isplitr; · iexact HI
  isplitr; · iexact Hlev
  isplitl [Hc1]; · iexact Hc1
  isplitl [HO]; · iexact HO
  isplitl [Ha1]; · iexact Ha1
  rw [pay1]
  iintro HO Ha1 H1
  iapply Hk $$ [H1 Ha1] [] [HO]
  · isplitl [H1]; · iexact H1
    iexact Ha1
  · isplitr; · iexact HI
    iexact Hlev
  · iexact HO

end Cert.Talk

end
-- ==== Proof.Body.lean ====
/-
  The whole run of the body at a symbolic device: the opening with the barrier, the folds over the chunks, and the closing of the cells.
-/
module

public import proofs.«01_k».proof.Proof.Chunks

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Families over the cells of a device -/

/-- The members of a family at one of the six arrays of semaphores. -/
def fam (Φ : KI → sProp 𝕄) (j : Fin 6) : sProp 𝕄 := bigSep Finset.univ fun k : Fin 8 => Φ (.inr (j, k))

/-- A family over the 50 cells, by its two single cells and its six arrays. -/
theorem ki_split (Φ : KI → sProp 𝕄) : bigSep Finset.univ Φ
    = iprop(Φ (.inl 0) ∗ Φ (.inl 1) ∗ fam Φ 0 ∗ fam Φ 1 ∗ fam Φ 2 ∗ fam Φ 3 ∗ fam Φ 4 ∗ fam Φ 5) := by
  rw [bigSep_univ_sum, bigSep_univ_prod, bigSep_fin_two,
    bigSep_univ_eq_bigSepL [(0 : Fin 6), 1, 2, 3, 4, 5] (by decide) (by decide)]
  exact Idealize.SL.BI.equiv_iff.mp ⟨Idealize.SL.BI.sep_assoc, Idealize.SL.BI.sep_assoc'⟩

/-- The device whose cell a transfer credits. -/
def tgt (i : KI) (c : Dev nD) : Dev nD :=
  match i with
  | .inl _ => c
  | .inr (j, _) => if j = 3 then yp c else if j = 5 then xp c else c

variable (m : (ℓ : Loc nD τ sig) → Buf (Elt F) ℓ) (K : GSem nD τ sig → ℕ) (c : Dev nD)

/-- The cells of device `c` at round `n`. -/
def posK (n : ℕ) (i : KI) : sProp 𝕄 := atPos ER (dcell c i) n ∅ 0
/-- Round 0 of the cells of device `c` is reached. -/
def rchK (i : KI) : sProp 𝕄 := reached ER (dcell c i) 0
/-- The tokens of the duties device `c` performs. -/
def tokK (i : KI) : sProp 𝕄 := dutyTok ER (dcell (tgt i c) i) 0 false
/-- The credits device `c` starts with or collects. -/
def crK (i : KI) : sProp 𝕄 := cred (tallyAt (dcell c i) () (amt i))
/-- The cells at rest. -/
def valK (i : KI) : sProp 𝕄 := semVal (dcell c i) 0

instance rchK_persistent (i : KI) : Persistent (rchK (F := F) c i) := by unfold rchK; infer_instance
instance fam_rchK_persistent (j : Fin 6) : Persistent (fam (F := F) (rchK c) j) := by unfold fam; infer_instance

/-- A region of a buffer for each chunk. -/
def ownF {sp : Space} {s : Shape} {e : EltTy} (v : Fin 8 → View sig .tc sp s e) : sProp 𝕄 := bigSep Finset.univ fun k => own (v k) c
/-- The same with contents. -/
def hasF {sp : Space} {s : Shape} {e : EltTy} (v : Fin 8 → View sig .tc sp s e) (X : Fin 8 → s.Idx → Elt F e) : sProp 𝕄 :=
  bigSep Finset.univ fun k => has (v k) c (X k)

/-- The neighbour's landing chunks across the second axis, and round 0 of their cells. -/
theorem payY_eq : (payY c : sProp 𝕄) = iprop(ownF (yp c) (fun k => (ch mR1 k).view) ∗ fam (rchK (yp c)) 3) := by
  unfold payY
  rw [bigSep_sep']
  rfl
/-- The neighbour's landing chunks across the first axis, and round 0 of their cells. -/
theorem payX_eq : (payX c : sProp 𝕄) = iprop(ownF (xp c) (fun k => (ch mR2 k).view) ∗ fam (rchK (xp c)) 5) := by
  unfold payX
  rw [bigSep_sep']
  rfl

theorem mkA1 : iprop(ownF c (fun k => (ch mS1 k).view) ∗ ownF (yp c) (fun k => (ch mR1 k).view) ∗ fam (tokK c) 2 ∗ fam (rchK c) 2
    ∗ fam (tokK c) 3 ∗ fam (rchK (yp c)) 3) ⊢ (sepL (A1 c) chunks : sProp 𝕄) := by
  rw [sepL_chunks]
  unfold A1
  simp only [bigSep_sep']
  exact Entails.of_eq rfl

theorem exB1 : (sepL (B1 c) chunks : sProp 𝕄) ⊢ fam (crK c) 2 := by
  rw [sepL_chunks]; exact Entails.of_eq rfl

theorem mkA2 : iprop(fam (crK c) 3 ∗ fam (posK c 0) 3 ∗ ownF c (fun k => (ch mS2 k).view) ∗ ownF c (fun k => (ownS c k).view)
    ∗ ownF c (fun k => (ownO c k).view) ∗ ownF (xp c) (fun k => (ch mR2 k).view) ∗ fam (tokK c) 4 ∗ fam (rchK c) 4 ∗ fam (tokK c) 5
    ∗ fam (rchK (xp c)) 5 ∗ fam (tokK c) 0 ∗ fam (rchK c) 0)
    ⊢ (sepL (A2 c) chunks : sProp 𝕄) := by
  rw [sepL_chunks]
  unfold A2
  simp only [bigSep_sep']
  exact Entails.of_eq rfl

theorem exB2 : (sepL (B2 c) chunks : sProp 𝕄)
    ⊢ iprop(ownF c (fun k => (ch mR1 k).view) ∗ fam (posK c 1) 3 ∗ fam (crK c) 4 ∗ fam (crK c) 0) := by
  rw [sepL_chunks]
  unfold B2
  simp only [bigSep_sep']
  exact Entails.of_eq rfl

theorem mkA3 : iprop(fam (crK c) 5 ∗ fam (posK c 0) 5 ∗ ownF c (fun k => (othS c k).view)
    ∗ ownF c (fun k => (othO c k).view) ∗ fam (tokK c) 1 ∗ fam (rchK c) 1) ⊢ (sepL (A3 c) chunks : sProp 𝕄) := by
  rw [sepL_chunks]
  unfold A3
  simp only [bigSep_sep']
  exact Entails.of_eq rfl

theorem exB3 : (sepL (B3 c) chunks : sProp 𝕄) ⊢ iprop(ownF c (fun k => (ch mR2 k).view) ∗ fam (posK c 1) 5 ∗ fam (crK c) 1) := by
  rw [sepL_chunks]
  unfold B3
  simp only [bigSep_sep']
  exact Entails.of_eq rfl

theorem mkA4 : iprop((fam (crK c) 2 ∗ fam (posK c 0) 2) ∗ (fam (crK c) 4 ∗ fam (posK c 0) 4)) ⊢ (sepL (A4 c) chunks : sProp 𝕄) := by
  rw [sepL_chunks]
  unfold A4
  simp only [bigSep_sep']
  exact Entails.of_eq rfl

theorem exB4 : (sepL (B4 c) chunks : sProp 𝕄) ⊢ iprop((ownF c (fun k => (ch mS1 k).view) ∗ fam (posK c 1) 2)
    ∗ (ownF c (fun k => (ch mS2 k).view) ∗ fam (posK c 1) 4)) := by
  rw [sepL_chunks]
  unfold B4
  simp only [bigSep_sep']
  exact Entails.of_eq rfl

theorem mkA5 : iprop(fam (crK c) 0 ∗ fam (posK c 0) 0) ⊢ (sepL (A5 c) chunks : sProp 𝕄) := by
  rw [sepL_chunks]
  unfold A5
  simp only [bigSep_sep']
  exact Entails.of_eq rfl

theorem exB5 : (sepL (B5 m c) chunks : sProp 𝕄)
    ⊢ iprop((hasF c (fun k => (ownO c k).view) (N32 m c) ∗ ownF c (fun k => (ownS c k).view)) ∗ fam (posK c 1) 0) := by
  rw [sepL_chunks]
  unfold B5
  simp only [bigSep_sep']
  exact Entails.of_eq rfl

theorem mkA6 : iprop(fam (crK c) 1 ∗ fam (posK c 0) 1) ⊢ (sepL (A6 c) chunks : sProp 𝕄) := by
  rw [sepL_chunks]
  unfold A6
  simp only [bigSep_sep']
  exact Entails.of_eq rfl

theorem exB6 : (sepL (B6 m c) chunks : sProp 𝕄)
    ⊢ iprop((hasF c (fun k => (othO c k).view) (W32 m c) ∗ ownF c (fun k => (othS c k).view)) ∗ fam (posK c 1) 1) := by
  rw [sepL_chunks]
  unfold B6
  simp only [bigSep_sep']
  exact Entails.of_eq rfl

/-! ## The opening -/

/-- What a device hands over with its signal across the second axis. -/
theorem mk_payY : iprop(ownF c (fun k => (ch mR1 k).view) ∗ fam (rchK c) 3) ⊢ (payY (yp c) : sProp 𝕄) := by
  rw [payY_eq, yp_yp]
/-- What a device hands over with its signal across the first axis. -/
theorem mk_payX : iprop(ownF c (fun k => (ch mR2 k).view) ∗ fam (rchK c) 5) ⊢ (payX (xp c) : sProp 𝕄) := by
  rw [payX_eq, xp_xp]

theorem landed_my (f : Buf (Elt F) (mMy.view.loc (c : Thread nD τ))) :
    iprop((mMy.view.loc (c : Thread nD τ) ↦[mMy.view.set]{fullShare} mMy.view.write (Elt F) f ((pMy c).view.read (Elt F) (V m c main_v1)) Finset.univ)
      ∗ inp (pMy c) c (V m c main_v1)) ⊢ payD m c (.inl 0) := by
  rw [pay_my]
  exact BIClass.sep_mono (landed_has c mMy.view f _ _ rfl) (Entails.of_eq rfl)
theorem landed_peer (f : Buf (Elt F) (mPeer.view.loc (c : Thread nD τ))) :
    iprop((mPeer.view.loc (c : Thread nD τ) ↦[mPeer.view.set]{fullShare} mPeer.view.write (Elt F) f ((pPeer c).view.read (Elt F) (V m c main_v1)) Finset.univ)
      ∗ inp (pPeer c) c (V m c main_v1)) ⊢ payD m c (.inl 1) := by
  rw [pay_peer]
  exact BIClass.sep_mono (landed_has c mPeer.view f _ _ rfl) (Entails.of_eq rfl)

/-- The opening: from the signals owed and the landing chunks to the neighbours' landing chunks and the rows to hand over. -/
theorem run_begin (Q : PUnit → sProp 𝕄) (p : Pr (F := F)) :
    iprop(IV m K ∗ levAts L lv ∗ rchK c (.inl 0) ∗ rchK c (.inl 1) ∗ fam (rchK c) 3 ∗ fam (rchK c) 5
        ∗ (reached ER (barCell (yp c)) 0 ∗ reached ER (barCell (xp c)) 0)
        ∗ (dutyTok ER (barCell (yp c)) 0 false ∗ dutyTok ER (barCell (xp c)) 0 true)
        ∗ tokK c (.inl 0) ∗ tokK c (.inl 1) ∗ atPos ER (barCell c) 0 ∅ 0 ∗ posK c 0 (.inl 1)
        ∗ cred (tallyAt (barCell c) () 2) ∗ inp (pMy c) c (V m c main_v1) ∗ inp (pPeer c) c (V m c main_v1)
        ∗ own mMy.view c ∗ own mPeer.view c ∗ ownF c (fun k => (ch mR1 k).view) ∗ ownF c (fun k => (ch mR2 k).view)
        ∗ (∃ W, owes (c : Thread nD τ) (O₀ c) W)
        ∗ (crK c (.inl 0) -∗ atPos ER (barCell c) 1 ∅ 0 -∗ posK c 1 (.inl 1) -∗ payY c -∗ payX c
            -∗ has mPeer.view c (peerB m c) -∗ inp (pPeer c) c (V m c main_v1)
            -∗ (∃ W, owes (c : Thread nD τ) (owe5 c chunks + owe3 c chunks) W) -∗ WP c p Q)) ⊢ WP c (begin' c p) Q := by
  unfold rchK tokK crK posK begin'
  conv => lhs; unfold own
  iintro ⟨#HI, #Hlev, Hr0, Hr1, Hr3, Hr5, ⟨HrY, HrX⟩, ⟨HtY, HtX⟩, Ht0, Ht1, HaB, Ha1, HcB, HiM, HiP, ⟨%fm, HM⟩, ⟨%fp, HP⟩, HR1, HR2, ⟨%W, HO⟩, Hk⟩
  iapply (Rounds.wp_copy_pointsTo 𝒱₀ ER (rd m) (c : Thread nD τ) none (src := pMy c) (dst := mMy) (sem := .dma (ksem (.inl 0))) (q := fullShare)
      (fs := V m c main_v1) (fd := fm) (r := 0) (d := false) (κ := K (dcell c (.inl 0)))
      (by rw [duties_dma]; exact Finset.mem_singleton_self _) () Nin (by unfold Nin; rfl) ((amount_dma m c _ false).trans (amt_in 0))
      (by rw [payload_dma]; exact landed_my m c fm)) $$ [HiM HM Ht0 Hr0]
  · isplitr; · iapply (IV_dma m K c (.inl 0)); iexact HI
    isplitl [HiM]; · iexact HiM
    isplitl [HM]; · iexact HM
    isplitl [Ht0]; · iexact Ht0
    iexact Hr0
  iintro Hc0
  iapply (Rounds.wp_copy_pointsTo 𝒱₀ ER (rd m) (c : Thread nD τ) none (src := pPeer c) (dst := mPeer) (sem := .dma (ksem (.inl 1))) (q := fullShare)
      (fs := V m c main_v1) (fd := fp) (r := 0) (d := false) (κ := K (dcell c (.inl 1)))
      (by rw [duties_dma]; exact Finset.mem_singleton_self _) () Nin (by unfold Nin; rfl) ((amount_dma m c _ false).trans (amt_in 1))
      (by rw [payload_dma]; exact landed_peer m c fp)) $$ [HiP HP Ht1 Hr1]
  · isplitr; · iapply (IV_dma m K c (.inl 1)); iexact HI
    isplitl [HiP]; · iexact HiP
    isplitl [HP]; · iexact HP
    isplitl [Ht1]; · iexact Ht1
    iexact Hr1
  iintro Hc1
  ihave HpY := (mk_payY c) $$ [HR1 Hr3]
  · isplitl [HR1]; · iexact HR1
    iexact Hr3
  ihave HpX := (mk_payX c) $$ [HR2 Hr5]
  · isplitl [HR2]; · iexact HR2
    iexact Hr5
  iapply (Rounds.wp_signal 𝒱₀ ER (rd m) (c : Thread nD τ) none (dst := (yp c, .tc)) (sem := barrier0) (r := 0) (d := false) (κ := K (barCell (yp c)))
      (by rw [duties_bar]; decide) (amount_bar m (yp c) false) ()
      (owe5 c chunks + owe3 c chunks + tallyAt (barCell (xp c)) () 1) rfl) $$ [HO HtY HpY HrY]
  · isplitr; · iapply (IV_bar m K (yp c)); iexact HI
    isplitl [HO]; · iexact HO
    isplitl [HtY]; · iexact HtY
    isplitl [HpY]; · iapply (Entails.of_eq (payload_barY m (yp c)).symm); iexact HpY
    iexact HrY
  iintro HO
  iapply (Rounds.wp_signal 𝒱₀ ER (rd m) (c : Thread nD τ) none (dst := (xp c, .tc)) (sem := barrier0) (r := 0) (d := true) (κ := K (barCell (xp c)))
      (by rw [duties_bar]; decide) (amount_bar m (xp c) true) ()
      (owe5 c chunks + owe3 c chunks) rfl) $$ [HO HtX HpX HrX]
  · isplitr; · iapply (IV_bar m K (xp c)); iexact HI
    isplitl [HO]; · iexact HO
    isplitl [HtX]; · iexact HtX
    isplitl [HpX]; · iapply (Entails.of_eq (payload_barX m (xp c)).symm); iexact HpX
    iexact HrX
  iintro HO
  iapply (Rounds.wp_wait_rest_token 𝒱₀ ER (rd m) (c : Thread nD τ) none (κ := K (barCell c))
      (wpE_semWait_eq 𝒱₀ (c : Thread nD τ) none Set.univ) (Set.mem_univ _) () (O := owe5 c chunks + owe3 c chunks) (R := 0) (m := 0) (T := ∅)
      ((Nat.zero_add _).trans (expect_bar m c).symm)) $$ [HcB HO HaB]
  · isplitr; · iapply (IV_bar m K c); iexact HI
    isplitl [HcB]; · iexact HcB
    isplitl [HO]; · iexact HO
    isplitr; · iapply (mayWait c (.reg barrier0) 1 _ (above_add (above_owe5 c (by decide) chunks) (above_owe3 c (by decide) chunks)) (Nat.le_refl 1)); iexact Hlev
    iexact HaB
  iintro ⟨HO, HaB, -, Hpay⟩
  ihave Hp := (Entails.of_eq (rest_bar m c)) $$ Hpay
  icases Hp with ⟨HpY, HpX⟩
  iapply (run_wait m K c (.inl 1) peerSem rfl (pPeer c) mPeer _ _ Nin (amt_in 1) (by unfold Nin; rfl) 0 _
    (above_add (above_owe5 c (by decide) chunks) (above_owe3 c (by decide) chunks)) (Nat.le_refl 0) p Q)
  isplitr; · iexact HI
  isplitr; · iexact Hlev
  isplitl [Hc1]; · iexact Hc1
  isplitl [HO]; · iexists _; iexact HO
  isplitl [Ha1]; · iexact Ha1
  rw [pay_peer]
  iintro HO Ha1 ⟨HP, HiP⟩
  iapply Hk $$ [Hc0] [HaB] [Ha1] [HpY] [HpX] [HP] [HiP] [HO]
  · iexact Hc0
  · iexact HaB
  · iexact Ha1
  · iexact HpY
  · iexact HpX
  · iexact HP
  · iexact HiP
  · iexact HO

/-! ## The whole body -/

/-- The working buffers, in the pieces the body uses. -/
def scr : sProp 𝕄 :=
  iprop(own mMy.view c ∗ own mPeer.view c ∗ ownF c (fun k => (ch mS1 k).view) ∗ ownF c (fun k => (ch mR1 k).view)
    ∗ ownF c (fun k => (ch mS2 k).view) ∗ ownF c (fun k => (ch mR2 k).view)
    ∗ ownF c (fun k => (ownS c k).view) ∗ ownF c (fun k => (othS c k).view))

/-- What device `c` runs from. -/
def talkPre : sProp 𝕄 :=
  iprop(IV m K ∗ levAts L lv ∗ bigSep Finset.univ (rchK c)
    ∗ (reached ER (barCell (yp c)) 0 ∗ reached ER (barCell (xp c)) 0)
    ∗ (dutyTok ER (barCell (yp c)) 0 false ∗ dutyTok ER (barCell (xp c)) 0 true)
    ∗ bigSep Finset.univ (tokK c) ∗ atPos ER (barCell c) 0 ∅ 0 ∗ bigSep Finset.univ (posK c 0)
    ∗ cred (tallyAt (barCell c) () 2) ∗ fam (crK c) 3 ∗ fam (crK c) 5
    ∗ scr c ∗ inp (pMy c) c (V m c main_v1) ∗ inp (pPeer c) c (V m c main_v1) ∗ has mG.view c (gamB m c)
    ∗ ownF c (fun k => (ownO c k).view) ∗ ownF c (fun k => (othO c k).view)
    ∗ (∃ W, owes (c : Thread nD τ) (O₀ c) W))

/-- What it leaves: every cell at rest, the working buffers, the inputs, and the two halves of the result. -/
def talkPost : sProp 𝕄 :=
  iprop(semVal (barCell c) 0 ∗ bigSep Finset.univ (valK c)
    ∗ scr c ∗ inp (pMy c) c (V m c main_v1) ∗ inp (pPeer c) c (V m c main_v1) ∗ has mG.view c (gamB m c)
    ∗ hasF c (fun k => (ownO c k).view) (N32 m c) ∗ hasF c (fun k => (othO c k).view) (W32 m c)
    ∗ (∃ W, owes (c : Thread nD τ) (0 : CellTallies nD τ sig Unit) W))

theorem IV_all : (IV m K : sProp 𝕄) ⊢ bigSep Finset.univ fun i : KI => cellInv ER (rd m) (K (dcell c i)) (dcell c i) :=
  (BI.bigSep_of_persistent Finset.univ (IV m K)).trans (bigSep_mono fun i _ => IV_dma m K c i)

/-- All the cells of a device, past their one round, are closed. -/
theorem close_all : iprop(IV m K ∗ bigSep Finset.univ (posK c 1)) ⊢ (|={Set.univ}=> bigSep Finset.univ (valK c) : sProp 𝕄) := by
  refine (BIClass.sep_mono (IV_all m K c) Entails.refl).trans ?_
  unfold posK valK
  rw [← bigSep_sep']
  exact (bigSep_mono fun i _ => Rounds.cell_close ER (rd m) (Set.mem_univ (K (dcell c i))) id (R := 1) (duties_later m (dcell c i))).trans
    (BI.bigSep_fupd Finset.univ _)

theorem close_bar : iprop(IV m K ∗ atPos ER (barCell c) 1 ∅ 0) ⊢ (|={Set.univ}=> semVal (barCell c) 0 : sProp 𝕄) :=
  (BIClass.sep_mono (IV_bar m K c) Entails.refl).trans
    (Rounds.cell_close ER (rd m) (Set.mem_univ _) id (R := 1) (duties_later m (barCell c)))

/-- Device `c` runs the whole body. -/
theorem talkRun (Q : PUnit → sProp 𝕄) : iprop(talkPre m K c ∗ (talkPost m c -∗ Q ⟨⟩)) ⊢ WP c (talkAt c) Q := by
  unfold talkPre scr talkAt
  rw [ki_split (rchK c), ki_split (tokK c), ki_split (posK c 0)]
  iintro ⟨⟨#HI, #Hlev, ⟨#r0, #r1, #R0, #R1, #R2, #R3, #R4, #R5⟩, HrB, HtB, ⟨t0, t1, T0, T1, T2, T3, T4, T5⟩, HaB,
    ⟨a0, a1, P0, P1, P2, P3, P4, P5⟩, HcB, C3, C5, ⟨HM, HP, HS1, HR1, HS2, HR2, HTo, HTt⟩, HiM, HiP, HG, HOo, HOt, HO⟩, Hk⟩
  iapply (run_begin m K c Q _)
  isplitr; · iexact HI
  isplitr; · iexact Hlev
  isplitr; · iexact r0
  isplitr; · iexact r1
  isplitr; · iexact R3
  isplitr; · iexact R5
  isplitl [HrB]; · iexact HrB
  isplitl [HtB]; · iexact HtB
  isplitl [t0]; · iexact t0
  isplitl [t1]; · iexact t1
  isplitl [HaB]; · iexact HaB
  isplitl [a1]; · iexact a1
  isplitl [HcB]; · iexact HcB
  isplitl [HiM]; · iexact HiM
  isplitl [HiP]; · iexact HiP
  isplitl [HM]; · iexact HM
  isplitl [HP]; · iexact HP
  isplitl [HR1]; · iexact HR1
  isplitl [HR2]; · iexact HR2
  isplitl [HO]; · iexact HO
  rw [payY_eq, payX_eq]
  iintro c0 HaB a1 ⟨HR1, RY⟩ ⟨HR2, RX⟩ HP HiP HO
  -- the partial sums go out
  ihave HA := (mkA1 c) $$ [HS1 HR1 T2 T3 RY]
  · isplitl [HS1]; · iexact HS1
    isplitl [HR1]; · iexact HR1
    isplitl [T2]; · iexact T2
    isplitr; · iexact R2
    isplitl [T3]; · iexact T3
    iexact RY
  iapply (run_foldr c (step1 c) Q (A1 c) (B1 c) (C1 m K c) (fun l => owe5 c chunks + owe3 c l) (run1 m K c Q) chunks _)
  isplitl [HA]; · iexact HA
  isplitl [HP]; · unfold C1; isplitr; · iexact HI
                  iexact HP
  isplitl [HO]; · iexact HO
  unfold C1
  iintro HB ⟨-, HP⟩ HO
  ihave C2 := (exB1 c) $$ HB
  -- the rows kept arrive
  unfold middle
  iapply (run_wait m K c (.inl 0) mySem rfl (pMy c) mMy _ _ Nin (amt_in 0) (by unfold Nin; rfl) 0 _
    (above_add (above_owe5 c (by decide) chunks) (above_owe3 c (by decide) [])) (Nat.le_refl 0) _ Q)
  isplitr; · iexact HI
  isplitr; · iexact Hlev
  isplitl [c0]; · iapply (Entails.of_eq (show (crK (F := F) c (.inl 0)) = cred (tallyAt (dcell c (.inl 0)) () Nin) from rfl)); iexact c0
  isplitl [HO]; · iexact HO
  isplitl [a0]; · iapply (Entails.of_eq (show (posK (F := F) c 0 (.inl 0)) = atPos ER (dcell c (.inl 0)) 0 ∅ 0 from rfl)); iexact a0
  rw [pay_my, show owe5 c chunks + owe3 c [] = owe5 c chunks from add_zero _]
  iintro HO a0 ⟨HM, HiM⟩
  -- the own half
  ihave HA := (mkA2 c) $$ [C3 P3 HS2 HTo HOo HR2 T4 T5 RX T0]
  · isplitl [C3]; · iexact C3
    isplitl [P3]; · iexact P3
    isplitl [HS2]; · iexact HS2
    isplitl [HTo]; · iexact HTo
    isplitl [HOo]; · iexact HOo
    isplitl [HR2]; · iexact HR2
    isplitl [T4]; · iexact T4
    isplitr; · iexact R4
    isplitl [T5]; · iexact T5
    isplitl [RX]; · iexact RX
    isplitl [T0]; · iexact T0
    iexact R0
  iapply (run_foldr c (step2 c) Q (A2 c) (B2 c) (C2 m K c) (owe5 c) (run2 m K c Q) chunks _)
  isplitl [HA]; · iexact HA
  isplitl [HM HG]; · unfold C2; isplitr; · iexact HI
                     isplitr; · iexact Hlev
                     isplitl [HM]; · iexact HM
                     iexact HG
  isplitl [HO]; · iexact HO
  unfold C2
  iintro HB ⟨-, -, HM, HG⟩ HO
  ihave HB := (exB2 c) $$ HB
  icases HB with ⟨HR1, P3, C4, C0⟩
  -- the other half
  ihave HA := (mkA3 c) $$ [C5 P5 HTt HOt T1]
  · isplitl [C5]; · iexact C5
    isplitl [P5]; · iexact P5
    isplitl [HTt]; · iexact HTt
    isplitl [HOt]; · iexact HOt
    isplitl [T1]; · iexact T1
    iexact R1
  iapply (run_foldr c (step3 c) Q (A3 c) (B3 c) (C3 m K) (fun _ => 0) (fun k _ => run3 m K c Q k) chunks _)
  isplitl [HA]; · iexact HA
  isplitr; · unfold C3; isplitr; · iexact HI
             iexact Hlev
  isplitl [HO]; · iexact HO
  iintro HB - HO
  ihave HB := (exB3 c) $$ HB
  icases HB with ⟨HR2, P5, C1⟩
  -- the departures
  ihave HA := (mkA4 c) $$ [C2 P2 C4 P4]
  · isplitl [C2 P2]
    · isplitl [C2]; · iexact C2
      iexact P2
    · isplitl [C4]; · iexact C4
      iexact P4
  iapply (run_foldr c step4 Q (A4 c) (B4 c) (C3 m K) (fun _ => 0) (fun k _ => run4 m K c Q k) chunks _)
  isplitl [HA]; · iexact HA
  isplitr; · unfold C3; isplitr; · iexact HI
             iexact Hlev
  isplitl [HO]; · iexact HO
  iintro HB - HO
  ihave HB := (exB4 c) $$ HB
  icases HB with ⟨⟨HS1, P2⟩, ⟨HS2, P4⟩⟩
  -- the copies out
  ihave HA := (mkA5 c) $$ [C0 P0]
  · isplitl [C0]; · iexact C0
    iexact P0
  iapply (run_foldr c (step5 c) Q (A5 c) (B5 m c) (C3 m K) (fun _ => 0) (fun k _ => run5 m K c Q k) chunks _)
  isplitl [HA]; · iexact HA
  isplitr; · unfold C3; isplitr; · iexact HI
             iexact Hlev
  isplitl [HO]; · iexact HO
  iintro HB - HO
  ihave HB := (exB5 m c) $$ HB
  icases HB with ⟨⟨HOo, HTo⟩, P0⟩
  ihave HA := (mkA6 c) $$ [C1 P1]
  · isplitl [C1]; · iexact C1
    iexact P1
  iapply (run_foldr c (step6 c) Q (A6 c) (B6 m c) (C3 m K) (fun _ => 0) (fun k _ => run6 m K c Q k) chunks _)
  isplitl [HA]; · iexact HA
  isplitr; · unfold C3; isplitr; · iexact HI
             iexact Hlev
  isplitl [HO]; · iexact HO
  iintro HB - HO
  ihave HB := (exB6 m c) $$ HB
  icases HB with ⟨⟨HOt, HTt⟩, P1⟩
  -- every cell is closed
  ihave HP1 := (Entails.of_eq (ki_split (posK c 1)).symm) $$ [a0 a1 P0 P1 P2 P3 P4 P5]
  · isplitl [a0]; · iapply (Entails.of_eq (show atPos ER (dcell c (.inl 0)) 1 ∅ 0 = (posK (F := F) c 1 (.inl 0)) from rfl)); iexact a0
    isplitl [a1]; · iexact a1
    isplitl [P0]; · iexact P0
    isplitl [P1]; · iexact P1
    isplitl [P2]; · iexact P2
    isplitl [P3]; · iexact P3
    isplitl [P4]; · iexact P4
    iexact P5
  unfold WP
  rw [wp_ret]
  imod (close_all m K c) $$ [HP1] with HV
  · isplitr; · iexact HI
    iexact HP1
  imod (close_bar m K c) $$ [HaB] with HVB
  · isplitr; · iexact HI
    iexact HaB
  imodintro
  iapply Hk
  unfold talkPost scr
  isplitl [HVB]; · iexact HVB
  isplitl [HV]; · iexact HV
  isplitl [HM HP HS1 HR1 HS2 HR2 HTo HTt]
  · isplitl [HM]; · iapply (has_own mMy.view c _); iexact HM
    isplitl [HP]; · iapply (has_own mPeer.view c _); iexact HP
    isplitl [HS1]; · iexact HS1
    isplitl [HR1]; · iexact HR1
    isplitl [HS2]; · iexact HS2
    isplitl [HR2]; · iexact HR2
    isplitl [HTo]; · iexact HTo
    iexact HTt
  isplitl [HiM]; · iexact HiM
  isplitl [HiP]; · iexact HiP
  isplitl [HG]; · iexact HG
  isplitl [HOo]; · iexact HOo
  isplitl [HOt]; · iexact HOt
  iexact HO

end Cert.Talk
end
-- ==== Proof.Bufs.lean ====
/-
  The buffers cut into the pieces the body uses, and joined back.
-/
module

public import proofs.«01_k».proof.Proof.Body

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Rows -/

/-- An index lies in a block of whole rows when its row does. -/
theorem mem_rows {N H o : ℕ} {off : Fin 2 → ℕ} (e : off = ![o, 0])
    (inb : ∀ a, off a + (![H, 1024] : Fin 2 → ℕ) a ≤ (⟨2, ![N, 1024]⟩ : Shape).size a) (i : (⟨2, ![N, 1024]⟩ : Shape).Idx) :
    i ∈ (Rect.unit (s := ⟨2, ![N, 1024]⟩) off ![H, 1024] inb).set ↔ o ≤ (i 0).val ∧ (i 0).val < o + H := by
  subst e
  have h1 : (i 1).val < 1024 := (i 1).isLt
  rw [Rect.mem_set_unit, Fin.forall_fin_two]
  exact ⟨fun h => h.1, fun h => ⟨h, Nat.zero_le _, by show (i 1).val < 0 + 1024; omega⟩⟩

theorem mem_rowR (k : Fin 8) (i : S512x1024.Idx) : i ∈ (rowR k).set ↔ 64 * k.val ≤ (i 0).val ∧ (i 0).val < 64 * k.val + 64 :=
  mem_rows (N := 512) (H := 64) rfl (inb64 k) i

theorem rowR_disj (k k' : Fin 8) (h : k ≠ k') : Disjoint (rowR k).set (rowR k').set :=
  Finset.disjoint_left.mpr fun i h1 h2 => h (Fin.ext (by
    have a := (mem_rowR k i).mp h1
    have b := (mem_rowR k' i).mp h2
    omega))

theorem rowR_cover : Finset.univ.biUnion (fun k => (rowR k).set) = Finset.univ :=
  Finset.eq_univ_of_forall fun i => Finset.mem_biUnion.mpr (by
    have hi : (i 0).val < 512 := (i 0).isLt
    exact ⟨⟨(i 0).val / 64, by omega⟩, Finset.mem_univ _, (mem_rowR _ i).mpr (by dsimp only; omega)⟩)

variable (c : Dev nD)

/-- The sixteen chunks of a 1024-row buffer: those of the half the device normalises, then those of the half it receives. -/
def halfR : Fin 8 ⊕ Fin 8 → Rect S1024x1024
  | .inl k => Rect.unit (s := S1024x1024) (k0_off4 c (rowW k)) S64x1024.size (k0_off4_inb c k)
  | .inr k => Rect.unit (s := S1024x1024) (k0_off6 c (rowW k)) S64x1024.size (k0_off6_inb c k)

theorem mem_own (k : Fin 8) (i : S1024x1024.Idx) :
    i ∈ (halfR c (.inl k)).set ↔ 512 * (c.val / 2) + 64 * k.val ≤ (i 0).val ∧ (i 0).val < 512 * (c.val / 2) + 64 * k.val + 64 :=
  mem_rows (N := 1024) (H := 64) (k0_off4_eq c k) (k0_off4_inb c k) i
theorem mem_oth (k : Fin 8) (i : S1024x1024.Idx) :
    i ∈ (halfR c (.inr k)).set ↔ 64 * k.val + 512 - 512 * (c.val / 2) ≤ (i 0).val ∧ (i 0).val < 64 * k.val + 512 - 512 * (c.val / 2) + 64 :=
  mem_rows (N := 1024) (H := 64) (k0_off6_eq c k) (k0_off6_inb c k) i

theorem halfR_disj (b b' : Fin 8 ⊕ Fin 8) (h : b ≠ b') : Disjoint (halfR c b).set (halfR c b').set :=
  Finset.disjoint_left.mpr fun i h1 h2 => h (by
    have hc : c.val < 4 := c.isLt
    rcases b with k | k <;> rcases b' with k' | k'
    · have a := (mem_own c k i).mp h1
      have b := (mem_own c k' i).mp h2
      exact congrArg Sum.inl (Fin.ext (by omega))
    · have a := (mem_own c k i).mp h1
      have b := (mem_oth c k' i).mp h2
      have := k.isLt; have := k'.isLt; omega
    · have a := (mem_oth c k i).mp h1
      have b := (mem_own c k' i).mp h2
      have := k.isLt; have := k'.isLt; omega
    · have a := (mem_oth c k i).mp h1
      have b := (mem_oth c k' i).mp h2
      exact congrArg Sum.inr (Fin.ext (by omega)))

theorem halfR_cover : Finset.univ.biUnion (fun b => (halfR c b).set) = Finset.univ :=
  Finset.eq_univ_of_forall fun i => Finset.mem_biUnion.mpr (by
    have hi : (i 0).val < 1024 := (i 0).isLt
    have hc : c.val < 4 := c.isLt
    by_cases h : (i 0).val / 512 = c.val / 2
    · exact ⟨.inl ⟨(i 0).val % 512 / 64, by omega⟩, Finset.mem_univ _, (mem_own c _ i).mpr (by dsimp only; omega)⟩
    · exact ⟨.inr ⟨(i 0).val % 512 / 64, by omega⟩, Finset.mem_univ _, (mem_oth c _ i).mpr (by dsimp only; omega)⟩)

/-! ## Cutting and joining -/

theorem pts_own {sp : Space} {s : Shape} {e : EltTy} (v : View sig .tc sp s e) (f : Buf (Elt F) (v.loc (c : Thread nD τ))) :
    (v.loc (c : Thread nD τ) ↦[v.set]{fullShare} f : sProp 𝕄) ⊢ own v c := by
  unfold own
  iintro H
  iexists f; iexact H

theorem cast_eq_cast {α β : Type} (h : α = β) {a b : α} (e : cast h a = cast h b) : a = b := by subst h; exact e

/-- Contents that read the same under a view own its elements alike. -/
theorem pts_read {sp : Space} {s : Shape} {e : EltTy} (v : View sig .tc sp s e) (f g : Buf (Elt F) (v.loc (c : Thread nD τ)))
    (h : v.read (Elt F) f = v.read (Elt F) g) :
    (v.loc (c : Thread nD τ) ↦[v.set]{fullShare} f : sProp 𝕄) = (v.loc (c : Thread nD τ) ↦[v.set]{fullShare} g : sProp 𝕄) :=
  pointsTo_congr fun i hi => by
    obtain ⟨x, -, rfl⟩ := Finset.mem_map.mp hi
    have := congrFun h x
    rw [View.read_apply, View.read_apply] at this
    exact cast_eq_cast _ this

/-- Contents that read `X` under a view agree on it with any contents that do. -/
theorem has_pts {sp : Space} {s : Shape} {e : EltTy} (v : View sig .tc sp s e) (X : s.Idx → Elt F e) (g : Buf (Elt F) (v.loc (c : Thread nD τ)))
    (h : v.read (Elt F) g = X) : has v c X ⊢ (v.loc (c : Thread nD τ) ↦[v.set]{fullShare} g : sProp 𝕄) := by
  unfold has
  iintro ⟨%f, H, %hf⟩
  iapply (Entails.of_eq (pts_read c v f g (hf.trans h.symm)))
  iexact H

section Cut

variable {B : Type} [Fintype B] [DecidableEq B] (b : Ref sig .tc) (r : B → Rect b.ty.shape)
  (hd : ∀ k k', k ≠ k' → Disjoint (r k).set (r k').set) (hc : Finset.univ.biUnion (fun k => (r k).set) = Finset.univ)

include hd hc in
/-- A buffer at some contents is its pieces at some contents; -/
theorem cut_own (f : Buf (Elt F) ((c : Thread nD τ).loc b)) :
    (((c : Thread nD τ).loc b) ↦{fullShare} f : sProp 𝕄) ⊢ bigSep Finset.univ fun k => own ((View.whole b).slice (r k)) c := by
  rw [Ring.pointsTo_blocks (fun k => (r k).set) hd hc f]
  refine bigSep_mono fun k _ => (Entails.of_eq ?_).trans (pts_own c ((View.whole b).slice (r k)) f)
  rw [View.set_slice_whole]

include hd hc in
/-- and back. -/
theorem join_own (f₀ : Buf (Elt F) ((c : Thread nD τ).loc b)) :
    (bigSep Finset.univ fun k => own ((View.whole b).slice (r k)) c)
      ⊢ (iprop(∃ f : Buf (Elt F) ((c : Thread nD τ).loc b), ((c : Thread nD τ).loc b) ↦{fullShare} f) : sProp 𝕄) := by
  refine BIBase.Entails.trans (bigSep_mono fun k _ => ?_) (Ring.pointsTo_blocks_join_exists (fun k => (r k).set) hd hc f₀)
  unfold own
  rw [View.set_slice_whole]
  exact BI.Entails.refl _

include hd hc in
/-- Pieces at known contents join to the buffer that reads them all. -/
theorem join_has (X : (k : B) → (r k).shape.Idx → Elt F b.ty.elt) (g : Buf (Elt F) ((c : Thread nD τ).loc b))
    (h : ∀ k, ((View.whole b).slice (r k)).read (Elt F) g = X k) :
    (bigSep Finset.univ fun k => has ((View.whole b).slice (r k)) c (X k)) ⊢ (((c : Thread nD τ).loc b) ↦{fullShare} g : sProp 𝕄) := by
  rw [Ring.pointsTo_blocks (fun k => (r k).set) hd hc g]
  refine bigSep_mono fun k _ => (has_pts c _ (X k) g (h k)).trans ?_
  rw [View.set_slice_whole]

end Cut

/-! ## The working buffers -/

variable (m : (ℓ : Loc nD τ sig) → Buf (Elt F) ℓ)

/-- A buffer whole, at some contents. -/
abbrev anyW (b : Ref sig .tc) : sProp 𝕄 := iprop(∃ f : Buf (Elt F) ((c : Thread nD τ).loc b), ((c : Thread nD τ).loc b) ↦{fullShare} f)

theorem own_whole (b : Ref sig .tc) : (own (View.whole b) c : sProp 𝕄) = anyW c b := by
  unfold own
  rw [View.set_whole]

theorem cut_any {B : Type} [Fintype B] [DecidableEq B] (b : Ref sig .tc) (r : B → Rect b.ty.shape)
    (hd : ∀ k k', k ≠ k' → Disjoint (r k).set (r k').set) (hc : Finset.univ.biUnion (fun k => (r k).set) = Finset.univ) :
    (anyW c b : sProp 𝕄) ⊢ bigSep Finset.univ fun k => own ((View.whole b).slice (r k)) c := by
  iintro ⟨%f, H⟩
  iapply (cut_own c b r hd hc f); iexact H

/-- The seven working buffers, whole, are the pieces the body uses; -/
theorem scr_cut : iprop(anyW c cc0_scratch0 ∗ anyW c cc0_scratch1 ∗ anyW c cc0_scratch2 ∗ anyW c cc0_scratch3 ∗ anyW c cc0_scratch4
    ∗ anyW c cc0_scratch5 ∗ anyW c cc0_scratch6) ⊢ (scr c : sProp 𝕄) := by
  unfold scr
  iintro ⟨H0, H1, H2, H3, H4, H5, H6⟩
  isplitl [H0]; · iapply (Entails.of_eq (own_whole c cc0_scratch0).symm); iexact H0
  isplitl [H1]; · iapply (Entails.of_eq (own_whole c cc0_scratch1).symm); iexact H1
  isplitl [H2]; · iapply (show anyW c cc0_scratch2 ⊢ (ownF c (fun k => (ch mS1 k).view) : sProp 𝕄) from cut_any c cc0_scratch2 rowR rowR_disj rowR_cover); iexact H2
  isplitl [H3]; · iapply (show anyW c cc0_scratch3 ⊢ (ownF c (fun k => (ch mR1 k).view) : sProp 𝕄) from cut_any c cc0_scratch3 rowR rowR_disj rowR_cover); iexact H3
  isplitl [H4]; · iapply (show anyW c cc0_scratch4 ⊢ (ownF c (fun k => (ch mS2 k).view) : sProp 𝕄) from cut_any c cc0_scratch4 rowR rowR_disj rowR_cover); iexact H4
  isplitl [H5]; · iapply (show anyW c cc0_scratch5 ⊢ (ownF c (fun k => (ch mR2 k).view) : sProp 𝕄) from cut_any c cc0_scratch5 rowR rowR_disj rowR_cover); iexact H5
  iapply (show anyW c cc0_scratch6 ⊢ (iprop(ownF c (fun k => (ownS c k).view) ∗ ownF c (fun k => (othS c k).view)) : sProp 𝕄) from
    (cut_any c cc0_scratch6 (halfR c) (halfR_disj c) (halfR_cover c)).trans (Entails.of_eq (bigSep_univ_sum _))); iexact H6

/-- and back. -/
theorem scr_join (m : (ℓ : Loc nD τ sig) → Buf (Elt F) ℓ) : (scr c : sProp 𝕄) ⊢ iprop(anyW c cc0_scratch0 ∗ anyW c cc0_scratch1 ∗ anyW c cc0_scratch2 ∗ anyW c cc0_scratch3
    ∗ anyW c cc0_scratch4 ∗ anyW c cc0_scratch5 ∗ anyW c cc0_scratch6) := by
  unfold scr
  iintro ⟨H0, H1, H2, H3, H4, H5, H6, H7⟩
  isplitl [H0]; · iapply (Entails.of_eq (own_whole c cc0_scratch0)); iexact H0
  isplitl [H1]; · iapply (Entails.of_eq (own_whole c cc0_scratch1)); iexact H1
  isplitl [H2]; · iapply (show (ownF c (fun k => (ch mS1 k).view) : sProp 𝕄) ⊢ anyW c cc0_scratch2 from join_own c cc0_scratch2 rowR rowR_disj rowR_cover (m _)); iexact H2
  isplitl [H3]; · iapply (show (ownF c (fun k => (ch mR1 k).view) : sProp 𝕄) ⊢ anyW c cc0_scratch3 from join_own c cc0_scratch3 rowR rowR_disj rowR_cover (m _)); iexact H3
  isplitl [H4]; · iapply (show (ownF c (fun k => (ch mS2 k).view) : sProp 𝕄) ⊢ anyW c cc0_scratch4 from join_own c cc0_scratch4 rowR rowR_disj rowR_cover (m _)); iexact H4
  isplitl [H5]; · iapply (show (ownF c (fun k => (ch mR2 k).view) : sProp 𝕄) ⊢ anyW c cc0_scratch5 from join_own c cc0_scratch5 rowR rowR_disj rowR_cover (m _)); iexact H5
  iapply (show (iprop(ownF c (fun k => (ownS c k).view) ∗ ownF c (fun k => (othS c k).view)) : sProp 𝕄) ⊢ anyW c cc0_scratch6 from
    BIBase.Entails.trans (Entails.of_eq (bigSep_univ_sum (fun b => (own ((View.whole cc0_scratch6).slice (halfR c b)) c : sProp 𝕄))).symm)
      (join_own c cc0_scratch6 (halfR c) (halfR_disj c) (halfR_cover c) (m _)))
  isplitl [H6]; · iexact H6
  iexact H7

/-! ## The result -/

/-- The place of a row within its chunk. -/
def inCh (i : S1024x1024.Idx) : S64x1024.Idx
  | ⟨0, _⟩ => ⟨(i 0).val % 64, Nat.mod_lt _ (by decide)⟩
  | ⟨1, _⟩ => ⟨(i 1).val, (i 1).isLt⟩
/-- The chunk of a row within its half. -/
def chOf (i : S1024x1024.Idx) : Fin 8 := ⟨(i 0).val % 512 / 64, by omega⟩

/-- The result of device `c`: the half it normalised and the half it received. -/
def outF : Buf (Elt F) ((c : Thread nD τ).loc main_v3) := fun i : S1024x1024.Idx =>
  if (i 0).val / 512 = c.val / 2 then N32 m c (chOf i) (inCh i) else W32 m c (chOf i) (inCh i)

/-- What it holds on a chunk of either half. -/
def outX : (b : Fin 8 ⊕ Fin 8) → (halfR c b).shape.Idx → Elt F .f32
  | .inl k => N32 m c k
  | .inr k => W32 m c k

theorem inCh_eq (x : S64x1024.Idx) (i : S1024x1024.Idx) (h0 : (i 0).val % 64 = (x 0).val) (h1 : (i 1).val = (x 1).val) : inCh i = x :=
  funext fun a => by
    match a with
    | ⟨0, _⟩ => exact Fin.ext h0
    | ⟨1, _⟩ => exact Fin.ext h1

theorem outF_read (b : Fin 8 ⊕ Fin 8) : ((View.whole main_v3).slice (halfR c b)).read (Elt F) (outF c m) = outX c m b := by
  have hc : c.val < 4 := c.isLt
  rcases b with k | k
  · refine funext fun x : S64x1024.Idx => ?_
    have hx : (x 0).val < 64 := (x 0).isLt
    have hk := k.isLt
    show outF c m ((halfR c (.inl k)).emb x) = N32 m c k x
    have e0 : (((halfR c (.inl k)).emb x : S1024x1024.Idx) 0).val = 512 * (c.val / 2) + 64 * k.val + (x 0).val := by
      show k0_off4 c (rowW k) 0 + 1 * (x 0).val = _
      rw [k0_off4_eq]; show 512 * (c.val / 2) + 64 * k.val + 1 * (x 0).val = _; omega
    have e1 : (((halfR c (.inl k)).emb x : S1024x1024.Idx) 1).val = (x 1).val := by
      show k0_off4 c (rowW k) 1 + 1 * (x 1).val = _
      rw [k0_off4_eq]; show 0 + 1 * (x 1).val = _; omega
    unfold outF
    rw [if_pos (by rw [e0]; omega), inCh_eq x _ (by rw [e0]; omega) e1,
      show chOf ((halfR c (.inl k)).emb x) = k from Fin.ext (by unfold chOf; dsimp only; rw [e0]; omega)]
  · refine funext fun x : S64x1024.Idx => ?_
    have hx : (x 0).val < 64 := (x 0).isLt
    have hk := k.isLt
    show outF c m ((halfR c (.inr k)).emb x) = W32 m c k x
    have e0 : (((halfR c (.inr k)).emb x : S1024x1024.Idx) 0).val = 64 * k.val + 512 - 512 * (c.val / 2) + (x 0).val := by
      show k0_off6 c (rowW k) 0 + 1 * (x 0).val = _
      rw [k0_off6_eq]; show 64 * k.val + 512 - 512 * (c.val / 2) + 1 * (x 0).val = _; omega
    have e1 : (((halfR c (.inr k)).emb x : S1024x1024.Idx) 1).val = (x 1).val := by
      show k0_off6 c (rowW k) 1 + 1 * (x 1).val = _
      rw [k0_off6_eq]; show 0 + 1 * (x 1).val = _; omega
    unfold outF
    rw [if_neg (by rw [e0]; omega), inCh_eq x _ (by rw [e0]; omega) e1,
      show chOf ((halfR c (.inr k)).emb x) = k from Fin.ext (by unfold chOf; dsimp only; rw [e0]; omega)]

/-- The result buffer, whole, is the two halves' chunks; -/
theorem out_cut (f : Buf (Elt F) ((c : Thread nD τ).loc main_v3)) : (((c : Thread nD τ).loc main_v3) ↦{fullShare} f : sProp 𝕄)
    ⊢ iprop(ownF c (fun k => (ownO c k).view) ∗ ownF c (fun k => (othO c k).view)) :=
  (cut_own c main_v3 (halfR c) (halfR_disj c) (halfR_cover c) f).trans (Entails.of_eq (bigSep_univ_sum _))

/-- and the finished halves are the whole result. -/
theorem out_join : iprop(hasF c (fun k => (ownO c k).view) (N32 m c) ∗ hasF c (fun k => (othO c k).view) (W32 m c))
    ⊢ (((c : Thread nD τ).loc main_v3) ↦{fullShare} outF c m : sProp 𝕄) :=
  BIBase.Entails.trans (Entails.of_eq (bigSep_univ_sum (fun b => (has ((View.whole main_v3).slice (halfR c b)) c (outX c m b) : sProp 𝕄))).symm)
    (join_has c main_v3 (halfR c) (halfR_disj c) (halfR_cover c) (outX c m) (outF c m) (outF_read c m))

/-! ## The input -/

theorem in_disj : Disjoint (pMy c).view.set (pPeer c).view.set := by
  rw [show (pMy c).view.set = (Rect.unit (s := S2048x1024) (k0_off1 c) S512x1024.size (k0_off1_inb c)).set from View.set_slice_whole _ _,
    show (pPeer c).view.set = (Rect.unit (s := S2048x1024) (k0_off2 c) S512x1024.size (k0_off2_inb c)).set from View.set_slice_whole _ _]
  refine Finset.disjoint_left.mpr fun i h1 h2 => ?_
  have a := (mem_rows (N := 2048) (H := 512) (k0_off1_eq c) (k0_off1_inb c) i).mp h1
  have b := (mem_rows (N := 2048) (H := 512) (k0_off2_eq c) (k0_off2_inb c) i).mp h2
  have hc : c.val < 4 := c.isLt
  omega

/-- The rows of the input the device does not touch. -/
def rest (f : Buf (Elt F) ((c : Thread nD τ).loc main_v1)) : sProp 𝕄 :=
  ((c : Thread nD τ).loc main_v1) ↦[(Finset.univ \ (pMy c).view.set) \ (pPeer c).view.set]{fullShare} f

/-- The input, whole, is the rows kept, the rows handed over and the others. -/
theorem in_eq (f : Buf (Elt F) ((c : Thread nD τ).loc main_v1)) : (((c : Thread nD τ).loc main_v1) ↦{fullShare} f : sProp 𝕄)
    = iprop(inp (pMy c) c f ∗ inp (pPeer c) c f ∗ rest c f) := by
  have h1 := pointsTo_split_subset (Ix := Unit) (Name := ℕ) (U := UU) (Lvl := ℕ) (ℓ := (c : Thread nD τ).loc main_v1) (q := fullShare) (f := f) (Finset.subset_univ (pMy c).view.set)
  have h2 := pointsTo_split_subset (Ix := Unit) (Name := ℕ) (U := UU) (Lvl := ℕ) (ℓ := (c : Thread nD τ).loc main_v1) (q := fullShare) (f := f)
      (show (pPeer c).view.set ⊆ Finset.univ \ (pMy c).view.set from fun i hi => Finset.mem_sdiff.mpr
        ⟨Finset.mem_univ i, Finset.disjoint_right.mp (in_disj c) hi⟩)
  unfold rest inp
  exact BI.equiv_iff.mp ⟨h1.1.trans (BIClass.sep_mono Entails.refl h2.1), (BIClass.sep_mono Entails.refl h2.2).trans h1.2⟩

end Cert.Talk
end
-- ==== Proof.Region.lean ====
/-
  The kernel as one region of the host program: what it is entered with, what its body makes of that, and what it leaves.
-/
module

public import proofs.«01_k».proof.Proof.Bufs
public import Idealize.ShloMosaic.Lib.Pipeline.RegionTalk

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

/-! ## The host program's buffers -/

/-- The buffers of a device that outlive the kernel. -/
def bufs : Finset (DevRef τ sig) := (StableHlo.tcRefs τ sig).filter fun b => ¬ b.isScoped
/-- Those the kernel stages. -/
abbrev arrs : Finset (DevRef τ sig) := arrRefs (τ := τ) spec0
/-- The others. -/
def offs : Finset (DevRef τ sig) := bufs \ arrs

theorem arrs_sub : arrs ⊆ bufs := by decide
theorem bufs_split (c : Dev nD) (W : Valuation τ sig (Elt F)) :
    (StableHlo.held (c : Thread nD τ) bufs W : sProp 𝕄)
      = iprop(StableHlo.held (c : Thread nD τ) arrs W ∗ StableHlo.held (c : Thread nD τ) offs W) :=
  StableHlo.held_sub_split (c : Thread nD τ) arrs_sub W

/-- The buffers the kernel does not stage, one by one. -/
theorem offs_eq (c : Dev nD) (W : Valuation τ sig (Elt F)) : (StableHlo.held (c : Thread nD τ) offs W : sProp 𝕄)
    = iprop((((c : Thread nD τ).loc main_arg0) ↦{fullShare} W main_arg0) ∗ (((c : Thread nD τ).loc main_arg1) ↦{fullShare} W main_arg1)
        ∗ (((c : Thread nD τ).loc main_v1) ↦{fullShare} W main_v1) ∗ (((c : Thread nD τ).loc main_v3) ↦{fullShare} W main_v3)) := by
  unfold StableHlo.held
  rw [bigSep_eq_bigSepL_of_eq [Proc.devRef .tc main_arg0, Proc.devRef .tc main_arg1, Proc.devRef .tc main_v1, Proc.devRef .tc main_v3]
    (by decide) (by decide)]
  rfl

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The contents at launch. -/
abbrev V₀ (c : Dev nD) : Valuation τ sig (Elt F) := fun b => m (c, b)
/-- The contents where the kernel starts. -/
abbrev V₁ (c : Dev nD) : Valuation τ sig (Elt F) := StableHlo.after hostOps0 (V₀ m c)
/-- The contents where it ends. -/
def V₂ (c : Dev nD) : Valuation τ sig (Elt F) := Function.update (V₁ m c) (Proc.devRef .tc main_v3) (outF c m)

theorem V₂_out (c : Dev nD) : V₂ m c main_v3 = outF c m := Function.update_self _ _ _
theorem V₂_ne (c : Dev nD) (b : Ref sig .tc) (h : (Proc.devRef .tc b : DevRef τ sig) ≠ Proc.devRef .tc main_v3) : V₂ m c b = V₁ m c b :=
  Function.update_of_ne h _ _

/-! ## What enters and what leaves -/

/-- The kernel's own counters. -/
abbrev osem : KI → SemLoc sig := fun i => .dma (ksem i)

/-- What a device holds of the protocol before its transfer cells are open. -/
def ghost (K : GSem nD τ sig → ℕ) (c : Dev nD) : sProp 𝕄 :=
  iprop(IV m K ∗ (reached ER (barCell (yp c)) 0 ∗ reached ER (barCell (xp c)) 0)
    ∗ (dutyTok ER (barCell (yp c)) 0 false ∗ dutyTok ER (barCell (xp c)) 0 true)
    ∗ bigSep Finset.univ (tokK c) ∗ atPos ER (barCell c) 0 ∅ 0 ∗ bigSep Finset.univ fun i : KI => openTok ER (dcell c i))
/-- The same with the cells open. -/
def opened (K : GSem nD τ sig → ℕ) (c : Dev nD) : sProp 𝕄 :=
  iprop(IV m K ∗ bigSep Finset.univ (rchK c) ∗ (reached ER (barCell (yp c)) 0 ∗ reached ER (barCell (xp c)) 0)
    ∗ (dutyTok ER (barCell (yp c)) 0 false ∗ dutyTok ER (barCell (xp c)) 0 true)
    ∗ bigSep Finset.univ (tokK c) ∗ atPos ER (barCell c) 0 ∅ 0 ∗ bigSep Finset.univ (posK c 0))
/-- The units a device may wait for: its barrier's two and the arrivals'. -/
def crs (c : Dev nD) : sProp 𝕄 := iprop(cred (tallyAt (barCell c) () 2) ∗ fam (crK c) 3 ∗ fam (crK c) 5)

def Tk (c : Dev nD) : sProp 𝕄 := iprop((∃ K, ghost m K c) ∗ crs c)
def Xk (c : Dev nD) : sProp 𝕄 := iprop((∃ K, opened m K c) ∗ crs c ∗ levAts L lv)
def Yk (c : Dev nD) : sProp 𝕄 := semVal (barCell c) 0

/-- Opening every transfer cell of a device. -/
theorem open_all (K : GSem nD τ sig → ℕ) (c : Dev nD) :
    iprop(IV m K ∗ (bigSep Finset.univ fun i : KI => openTok ER (dcell c i)) ∗ bigSep Finset.univ fun i : KI => semVal (dcell c i) 0)
      ⊢ (|={Set.univ}=> iprop(bigSep Finset.univ (posK c 0) ∗ bigSep Finset.univ (rchK c)) : sProp 𝕄) := by
  refine (BIClass.sep_mono (IV_all m K c) Entails.refl).trans ?_
  unfold posK rchK
  rw [← bigSep_sep', ← bigSep_sep', ← bigSep_sep']
  exact (bigSep_mono fun i _ => Rounds.cell_open ER (rd m) (Set.mem_univ (K (dcell c i)))).trans (BI.bigSep_fupd Finset.univ _)

theorem hopen (c : Dev nD) : iprop(Tk m c ∗ ownSems0 osem c ∗ levAts L lv) ⊢ (|={Set.univ}=> Xk m c : sProp 𝕄) := by
  unfold Tk Xk ghost opened
  iintro ⟨⟨⟨%K, #HI, HrB, HtB, HT, HaB, Ho⟩, Hc⟩, Hs, Hlev⟩
  imod (open_all m K c) $$ [Ho Hs] with ⟨HP, HR⟩
  · isplitr; · iexact HI
    isplitl [Ho]; · iexact Ho
    iapply (Entails.of_eq (show (ownSems0 osem c : sProp 𝕄) = bigSep Finset.univ fun i : KI => semVal (dcell c i) 0 from rfl)); iexact Hs
  imodintro
  isplitr [Hc Hlev]
  · iexists K
    isplitr; · iexact HI
    isplitl [HR]; · iexact HR
    isplitl [HrB]; · iexact HrB
    isplitl [HtB]; · iexact HtB
    isplitl [HT]; · iexact HT
    isplitl [HaB]; · iexact HaB
    iexact HP
  isplitl [Hc]; · iexact Hc
  iexact Hlev

/-! ## The proof data -/

/-- What the body is entered with. -/
def Φ0 (c : Dev nD) : sProp 𝕄 :=
  iprop(scopedRest spec0 c ∗ (∃ r, prngReg c r) ∗ StableHlo.held (c : Thread nD τ) offs (V₁ m c) ∗ Xk m c)
/-- What it leaves. -/
def Φ1 (c : Dev nD) : sProp 𝕄 :=
  iprop(scopedRest spec0 c ∗ (∃ r, prngReg c r) ∗ StableHlo.held (c : Thread nD τ) offs (V₂ m c) ∗ ownSems0 osem c ∗ Yk c)

/-- One point; the staged weight row is left as found; everything owed is paid. -/
def dat (c : Dev nD) : Dat τ (Elt F) Unit ℕ UU ℕ cfg0 c where
  A w := V m c (arrRef spec0 w)
  after w t := match w with | ⟨0, _⟩ => iblk m c 0 t
  Φ t := if t.val = 0 then Φ0 m c else Φ1 m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (pin (pcfgs (F := F)) adm p) c
  | 0 => dat m

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (Nat.succ_ne_zero _)
theorem Φ_first (c : Dev nD) : (dat m c).Φ t0_0.castSucc = Φ0 m c := by
  show (if (t0_0.castSucc : Fin (cfg0.N + 1)).val = 0 then Φ0 m c else Φ1 m c) = Φ0 m c; exact if_pos rfl
theorem Φ_last (c : Dev nD) : (dat m c).Φ t0_0.succ = Φ1 m c := by
  show (if (t0_0.succ : Fin (cfg0.N + 1)).val = 0 then Φ0 m c else Φ1 m c) = Φ1 m c; exact if_neg (Nat.succ_ne_zero _)

/-- The staging copy of the weight row has landed before the body runs. -/
theorem before_eq (c : Dev nD) (d) : (dat m c).before 0 t0_0 d = iblk m c 0 t0_0 :=
  ((dat m c).before_in_eq_fetched 0 rfl (fun _ => rfl) (fun _ _ _ => rfl) (fun _ => rfl) t0_0 d).trans rfl

theorem stage_in (c : Dev nD) (d) : (owns (c : Thread nD τ) ((cfg0.win 0).stage (cfg0.slots t0_0 0)) fullShare ((dat m c).before 0 t0_0 d) : sProp 𝕄)
    ⊢ has mG.view c (gamB m c) := by
  rw [before_eq]
  unfold owns has
  iintro ⟨%f, %hf, H⟩
  iexists f
  isplitl [H]; · iexact H
  ipureintro; exact hf
theorem stage_out (c : Dev nD) : (has mG.view c (gamB m c) : sProp 𝕄)
    ⊢ owns (c : Thread nD τ) ((cfg0.win 0).stage (cfg0.slots t0_0 0)) fullShare ((dat m c).after 0 t0_0) := by
  unfold owns has
  iintro ⟨%f, H, %hf⟩
  iexists f
  isplitr; · ipureintro; exact hf
  iexact H

theorem owesAt_in (c : Dev nD) : ((dat m c).owesAt () t0_0.castSucc : sProp 𝕄) ⊢ iprop(∃ W, owes (c : Thread nD τ) (O₀ c) W) := by
  unfold Dat.owesAt owesWithin; rw [owed_first]
  iintro ⟨%W, -, HO⟩; iexists W; iexact HO
theorem owesAt_out (c : Dev nD) : (iprop(∃ W, owes (c : Thread nD τ) (0 : CellTallies nD τ sig Unit) W) : sProp 𝕄)
    ⊢ (dat m c).owesAt () t0_0.succ := by
  unfold Dat.owesAt owesWithin Dat.bound; rw [owed_last]
  iintro ⟨%W, HO⟩; iexists W
  isplitr; · ipureintro; exact fun _ _ => Or.inl trivial
  iexact HO

/-- The body from what it is entered with to what it leaves. -/
theorem talk_all (c : Dev nD) (Q : PUnit → sProp 𝕄) :
    iprop((Φ0 m c ∗ (∃ W, owes (c : Thread nD τ) (O₀ c) W) ∗ has mG.view c (gamB m c))
      ∗ (Φ1 m c ∗ (∃ W, owes (c : Thread nD τ) (0 : CellTallies nD τ sig Unit) W) ∗ has mG.view c (gamB m c) -∗ Q ⟨⟩)) ⊢ WP c talk Q := by
  unfold Φ0 Φ1 Xk opened crs Yk
  rw [scopedRest0_eq, offs_eq, offs_eq, V₂_out, V₂_ne m c main_arg0 (by decide), V₂_ne m c main_arg1 (by decide), V₂_ne m c main_v1 (by decide),
    in_eq c (V₁ m c main_v1)]
  unfold WP talk
  rw [wp_deviceId]
  iintro ⟨⟨⟨Hs, Hp, ⟨Ha0, Ha1, ⟨HiM, HiP, Hr⟩, Ho⟩, ⟨%K, HI, HR, HrB, HtB, HT, HaB, HP⟩, ⟨HcB, C3, C5⟩, Hlev⟩, HO, HG⟩, Hk⟩
  ihave Hs := (scr_cut (F := F) c) $$ Hs
  ihave Ho := (out_cut c (V₁ m c main_v3)) $$ Ho
  icases Ho with ⟨HOo, HOt⟩
  iapply (talkRun m K c Q)
  isplitr [Hk Hp Ha0 Ha1 Hr]
  · unfold talkPre
    isplitl [HI]; · iexact HI
    isplitl [Hlev]; · iexact Hlev
    isplitl [HR]; · iexact HR
    isplitl [HrB]; · iexact HrB
    isplitl [HtB]; · iexact HtB
    isplitl [HT]; · iexact HT
    isplitl [HaB]; · iexact HaB
    isplitl [HP]; · iexact HP
    isplitl [HcB]; · iexact HcB
    isplitl [C3]; · iexact C3
    isplitl [C5]; · iexact C5
    isplitl [Hs]; · iexact Hs
    isplitl [HiM]; · iexact HiM
    isplitl [HiP]; · iexact HiP
    isplitl [HG]; · iexact HG
    isplitl [HOo]; · iexact HOo
    isplitl [HOt]; · iexact HOt
    iexact HO
  unfold talkPost
  iintro ⟨HvB, Hv, Hs, HiM, HiP, HG, HOo, HOt, HO⟩
  iapply Hk
  isplitr [HO HG]
  · isplitl [Hs]; · iapply (scr_join c m); iexact Hs
    isplitl [Hp]; · iexact Hp
    isplitr [Hv HvB]
    · isplitl [Ha0]; · iexact Ha0
      isplitl [Ha1]; · iexact Ha1
      isplitl [HiM HiP Hr]
      · isplitl [HiM]; · iexact HiM
        isplitl [HiP]; · iexact HiP
        iexact Hr
      iapply (out_join c m)
      isplitl [HOo]; · iexact HOo
      iexact HOt
    isplitl [Hv]
    · iapply (Entails.of_eq (show (bigSep Finset.univ (valK c) : sProp 𝕄) = ownSems0 osem c from rfl)); iexact Hv
    iexact HvB
  isplitl [HO]; · iexact HO
  iexact HG

/-- The body's obligation at the region's one point. -/
theorem body_ob (c : Dev nD) : BodyObligation (dat m c) (defs₀ (F := F)) 𝒱₀ () Set.univ := fun t => by
  obtain rfl := fin_N0 t
  rw [bigSep_W0, bigSep_W0]
  refine BIBase.Entails.trans ?_ (BIBase.Entails.trans (talk_all m c _) (Entails.of_eq (by rw [← body_eq]; rfl)))
  rw [Φ_first, Φ_last]
  show iprop(Φ0 m c ∗ (dat m c).owesAt () t0_0.castSucc
      ∗ ∃ d, owns (c : Thread nD τ) ((cfg0.win 0).stage (cfg0.slots t0_0 0)) fullShare ((dat m c).before 0 t0_0 d))
    ⊢ iprop((Φ0 m c ∗ (∃ W, owes (c : Thread nD τ) (O₀ c) W) ∗ has mG.view c (gamB m c))
      ∗ (Φ1 m c ∗ (∃ W, owes (c : Thread nD τ) (0 : CellTallies nD τ sig Unit) W) ∗ has mG.view c (gamB m c)
        -∗ Φ1 m c ∗ (dat m c).owesAt () t0_0.succ
          ∗ owns (c : Thread nD τ) ((cfg0.win 0).stage (cfg0.slots t0_0 0)) fullShare ((dat m c).after 0 t0_0)))
  iintro ⟨HΦ, HO, ⟨%d, HG⟩⟩
  isplitl [HΦ HO HG]
  · isplitl [HΦ]; · iexact HΦ
    isplitl [HO]; · iapply (owesAt_in m c); iexact HO
    iapply (stage_in m c d); iexact HG
  iintro ⟨HΦ, HO, HG⟩
  isplitl [HΦ]; · iexact HΦ
  isplitl [HO]; · iapply (owesAt_out m c); iexact HO
  iapply (stage_out m c); iexact HG

/-! ## The region -/

theorem kitP : PLaunchFacts (nD := nD) (τ := τ) (pcfgs (F := F)) 0 := launch0.toP

theorem cut_owed (c : Dev nD) (t : Fin ((pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

theorem stage_level (c : Dev nD) (w : Fin (pin (pcfgs (F := F)) adm 0).W) (s : Fin ((pin (pcfgs (F := F)) adm 0).win w).nbuf) :
    lv ((c : Thread nD τ), .dma (((pin (pcfgs (F := F)) adm 0).win w).sem s)) () ≤ 0 := by
  revert w s
  show ∀ (w : Fin 1) (s : Fin (spec0 w).nbuf), lv ((c : Thread nD τ), .dma ((spec0 w).sem s)) () ≤ 0
  revert c
  decide

set_option backward.isDefEq.respectTransparency.types false in
/-- The kernel's region. -/
def reg : RegionSeg (pcfgs (F := F)) adm (pdats m) () defs₀ 𝒱₀ L lv 0 :=
  RegionSeg.ofTalk (pcfgs (F := F)) adm (pdats m) () defs₀ 𝒱₀ L lv 0 osem (by decide +kernel : OwnSemFacts spec0 osem)
    offs offs (Finset.Subset.refl _) kitP rfl (fun c => (body_ob m c).loose)
    (fun _ => 0) O₀ (fun c => (owed_first m c).trans (zero_add _).symm) (fun c => owed_last m c) (fun _ => rfl) (fun _ w => by fin_cases w; rfl)
    (V₁ m) (V₂ m) (fun _ b hb => absurd hb (by rw [Finset.sdiff_self]; exact Finset.notMem_empty b))
    (Tk m) Yk (Xk m) Yk (hopen m) (fun c => Entails.of_eq rfl) (fun c => Entails.of_eq rfl)
    (fun c => by iintro H; imodintro; iexact H)
    (fun _ => 0)
    ⟨fun c _ _ => by rw [L_tc]; exact Finset.mem_singleton_self _, fun c w s => stage_level c w s, fun c t g i h => cut_owed m c t g i h⟩
    (fun _ => iprop(emp))
    (fun _ w => by fin_cases w; rfl)
    (fun c w => by
      fin_cases w
      exact ((dat m c).arrAt_in 0 rfl _).trans (V₂_ne m c main_v2 (by decide)).symm)

end Cert.Talk

end
-- ==== Proof.Run.lean ====
/-
  The run of the whole program on the four devices: the launch deals the protocol's ghost state and credit, and every
  final state has the arguments unchanged, the result at what the exchange leaves, and every counter at zero.
-/
module

public import proofs.«01_k».proof.Proof.Region
public import Idealize.ShloMosaic.Lib.Quiescent
public import Idealize.ShloMosaic.Harness.Basic

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The segments of the host program -/

/-- What rides beside the buffers up to the kernel. -/
def R (c : Dev nD) : sProp 𝕄 := iprop(Tk m c ∗ (∃ r, prngReg c r) ∗ ∃ W, owes (c : Thread nD τ) (O₀ c) W)

theorem ops_sub : ∀ op ∈ (hostOps0 : List (HloOp τ sig (Elt F))), op.bufs ⊆ bufs := by
  refine List.forall_iff_forall_mem.mp ⟨?_, ?_⟩
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide

/-- The reshapes before the kernel. -/
def seg : HostSeg (Name := ℕ) (U := UU) (pcfgs (F := F)) defs₀ 𝒱₀ L lv :=
  HostSeg.ofOps _ _ _ _ _ bufs hostOps0 ops_sub (List.forall_iff_forall_mem.mp hostOps0_fresh) (V₀ m) (R m)

theorem reg_pre (c : Dev nD) : iprop(StableHlo.held (c : Thread nD τ) bufs (V₁ m c) ∗ R m c) ⊢ (reg m).pre c := by
  show _ ⊢ iprop(StableHlo.held (c : Thread nD τ) arrs (V₁ m c) ∗ (∃ r, prngReg c r)
    ∗ (StableHlo.held (c : Thread nD τ) offs (V₁ m c) ∗ emp) ∗ Tk m c ∗ ∃ Wd, owes (c : Thread nD τ) (0 + O₀ c) Wd)
  rw [bufs_split, zero_add]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

/-- What a device ends with. -/
abbrev Tₙ (c : Dev nD) : sProp 𝕄 := iprop(StableHlo.held (c : Thread nD τ) offs (V₂ m c) ∗ semVal (barCell c) 0)

theorem reg_post (c : Dev nD) : (reg m).post c
    ⊢ iprop(Tₙ m c ∗ ∃ W, owes (c : Thread nD τ) (0 : CellTallies nD τ sig Unit) W) := by
  show iprop(StableHlo.held (c : Thread nD τ) arrs (V₂ m c) ∗ (∃ r, prngReg c r)
    ∗ (StableHlo.held (c : Thread nD τ) offs (V₂ m c) ∗ emp) ∗ Yk c ∗ ∃ Wd, owes (c : Thread nD τ) (0 : CellTallies nD τ sig Unit) Wd) ⊢ _
  unfold Yk
  iintro ⟨-, -, ⟨Hh, -⟩, Hb, HO⟩
  isplitr [HO]
  · isplitl [Hh]; · iexact Hh
    iexact Hb
  iexact HO

/-- The host program as its two segments. -/
def segs : List (Seg (pcfgs (F := F)) adm (pdats m) () defs₀ 𝒱₀ L lv) := [.host (seg m), .region (reg m)]

/-! ## The launch: the ghost state -/

/-- Every duty's token: the two of each barrier cell, the one of each transfer cell. -/
def tokEmb : Dev nD × (Bool ⊕ KI) ↪ GSem nD τ sig × ℕ × Bool :=
  ⟨fun x => match x.2 with
    | .inl b => (barCell x.1, 0, b)
    | .inr i => (dcell x.1 i, 0, false), fun x y h => by
    rcases x with ⟨c, b | i⟩ <;> rcases y with ⟨c', b' | i'⟩
    · have hc : c = c' := congrArg (fun t : GSem nD τ sig × ℕ × Bool => t.1.1.1) h
      have hb : b = b' := congrArg (fun t : GSem nD τ sig × ℕ × Bool => t.2.2) h
      rw [hc, hb]
    · exact nomatch congrArg (fun t : GSem nD τ sig × ℕ × Bool => t.1.2) h
    · exact nomatch congrArg (fun t : GSem nD τ sig × ℕ × Bool => t.1.2) h
    · have hc : c = c' := congrArg (fun t : GSem nD τ sig × ℕ × Bool => t.1.1.1) h
      have hi : i = i' := ksem_inj (SemLoc.dma.inj (congrArg (fun t : GSem nD τ sig × ℕ × Bool => t.1.2) h))
      rw [hc, hi]⟩
def toks : Finset (GSem nD τ sig × ℕ × Bool) := Finset.univ.map tokEmb

theorem disjoint_cells : Disjoint barCells dmaCells := by
  rw [Finset.disjoint_left]
  rintro g h₁ h₂
  obtain ⟨c, -, rfl⟩ := Finset.mem_map.mp h₁
  obtain ⟨ci, -, h⟩ := Finset.mem_map.mp h₂
  exact nomatch (congrArg Prod.snd h)

/-- The launch element: the staging copies' and the exchange's. -/
def u₀ : UU :=
  (initOf (cells (pin (pcfgs (F := F)) adm) cellOf_inj) (launchToks (pin (pcfgs (F := F)) adm) cellOf_inj),
    launchOf barCells dmaCells toks)

/-- The exchange's launch element, kept at one device until it is dealt. -/
def G (c : Dev nD) : sProp 𝕄 := if c = 0 then BI.own (ER (launchOf barCells dmaCells toks)) else iprop(emp)
theorem bigSep_G : bigSep Finset.univ (G (F := F)) = BI.own (ER (launchOf barCells dmaCells toks)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The tokens of the duties device `c` pays. -/
def pays (c : Dev nD) : sProp 𝕄 :=
  iprop((dutyTok ER (barCell (yp c)) 0 false ∗ dutyTok ER (barCell (xp c)) 0 true) ∗ bigSep Finset.univ (tokK c))

def ypE : Dev nD ≃ Dev nD := ⟨yp, yp, yp_yp, yp_yp⟩
def xpE : Dev nD ≃ Dev nD := ⟨xp, xp, xp_xp, xp_xp⟩
theorem tgt_tgt (i : KI) (c : Dev nD) : tgt i (tgt i c) = c := by
  rcases i with i | ⟨j, k⟩
  · rfl
  · dsimp only [tgt]
    split
    · exact yp_yp c
    · split
      · exact xp_xp c
      · rfl
def tgtE (i : KI) : Dev nD ≃ Dev nD := ⟨tgt i, tgt i, tgt_tgt i, tgt_tgt i⟩

/-- The tokens, each handed to the device that pays the duty. -/
theorem toks_around : bigSep toks (fun x => (dutyTok ER x.1 x.2.1 x.2.2 : sProp 𝕄)) ⊢ bigSep Finset.univ (pays (F := F)) := by
  have e1 (c : Dev nD) : (bigSep Finset.univ fun b : Bool ⊕ KI => (dutyTok ER (tokEmb (c, b)).1 (tokEmb (c, b)).2.1 (tokEmb (c, b)).2.2 : sProp 𝕄))
      = iprop((dutyTok ER (barCell c) 0 false ∗ dutyTok ER (barCell c) 0 true) ∗ bigSep Finset.univ fun i : KI => dutyTok ER (dcell c i) 0 false) := by
    rw [bigSep_univ_sum, show (Finset.univ : Finset Bool) = {false, true} by decide, BI.bigSep_insert (by decide), BI.bigSep_singleton]
    rfl
  unfold toks pays
  rw [bigSep_map, bigSep_univ_prod, bigSep_congr fun c _ => e1 c, bigSep_sep', bigSep_sep', bigSep_sep', bigSep_sep',
    bigSep_univ_equiv ypE (fun c : Dev nD => (dutyTok ER (barCell c) 0 false : sProp 𝕄)),
    bigSep_univ_equiv xpE (fun c : Dev nD => (dutyTok ER (barCell c) 0 true : sProp 𝕄)),
    BI.bigSep_univ_comm (fun (c : Dev nD) (i : KI) => (dutyTok ER (dcell c i) 0 false : sProp 𝕄)),
    bigSep_congr fun (i : KI) _ => bigSep_univ_equiv (tgtE i) (fun c : Dev nD => (dutyTok ER (dcell c i) 0 false : sProp 𝕄)),
    BI.bigSep_univ_comm (fun (i : KI) (c : Dev nD) => (dutyTok ER (dcell (tgtE i c) i) 0 false : sProp 𝕄))]
  exact Entails.refl

/-- The records every device may consult. -/
def records (κ : GSem nD τ sig → ℕ) : sProp 𝕄 := iprop(IV m κ ∗ bigSep barCells fun g => reached ER g 0)
instance records_persistent (κ : GSem nD τ sig → ℕ) : BI.Persistent (records m κ) := by unfold records; infer_instance

theorem reached_bar (c : Dev nD) : (bigSep barCells fun g => (reached ER g 0 : sProp 𝕄)) ⊢ reached ER (barCell c) 0 :=
  bigSep_elim (Finset.mem_map_of_mem barEmb (Finset.mem_univ c))

/-- What of the ghost state stays with device `c`. -/
def linear (c : Dev nD) : sProp 𝕄 :=
  iprop(pays c ∗ atPos ER (barCell c) 0 ∅ 0 ∗ bigSep Finset.univ fun i : KI => openTok ER (dcell c i))

theorem ghost_intro (κ : GSem nD τ sig → ℕ) (c : Dev nD) : iprop(records m κ ∗ linear c) ⊢ iprop(∃ K, ghost m K c) := by
  unfold records linear pays ghost
  iintro ⟨⟨#HI, #HR⟩, ⟨HtB, HT⟩, HaB, Ho⟩
  iexists κ
  isplitr; · iexact HI
  isplitr
  · isplitr; · iapply (reached_bar (F := F) (yp c)); iexact HR
    iapply (reached_bar (F := F) (xp c)); iexact HR
  isplitl [HtB]; · iexact HtB
  isplitl [HT]; · iexact HT
  isplitl [HaB]; · iexact HaB
  iexact Ho

/-! ## The launch: the credit -/

theorem owe3_at (d : Dev nD) (g : GSem nD τ sig) : ∀ l, owe3 d l g () = (l.map fun k => if g = dcell (yp d) (.inr (3, k)) then Nch else 0).sum
  | [] => rfl
  | k :: l => by
    rw [owe3, Pi.add_apply, Finsupp.add_apply, owe3_at d g l, tallyAt_apply, List.map_cons, List.sum_cons, Nat.add_comm]
    simp only [and_true]
theorem owe5_at (d : Dev nD) (g : GSem nD τ sig) : ∀ l, owe5 d l g () = (l.map fun k => if g = dcell (xp d) (.inr (5, k)) then Nch else 0).sum
  | [] => rfl
  | k :: l => by
    rw [owe5, Pi.add_apply, Finsupp.add_apply, owe5_at d g l, tallyAt_apply, List.map_cons, List.sum_cons, Nat.add_comm]
    simp only [and_true]

theorem dcell_eq (c d : Dev nD) (i j : KI) : dcell c i = dcell d j ↔ c = d ∧ i = j :=
  ⟨fun h => ⟨congrArg (fun g : GSem nD τ sig => g.1.1) h, ksem_inj (SemLoc.dma.inj (congrArg Prod.snd h))⟩, fun ⟨h, h'⟩ => by rw [h, h']⟩
theorem barCell_eq (c d : Dev nD) : barCell c = barCell d ↔ c = d :=
  ⟨fun h => congrArg (fun g : GSem nD τ sig => g.1.1) h, fun h => by rw [h]⟩
theorem bar_ne_dcell (c d : Dev nD) (i : KI) : barCell c ≠ dcell d i := fun h => nomatch (congrArg Prod.snd h)
theorem eq_yp (c d : Dev nD) : c = yp d ↔ d = yp c := ⟨fun h => by rw [h, yp_yp], fun h => by rw [h, yp_yp]⟩
theorem eq_xp (c d : Dev nD) : c = xp d ↔ d = xp c := ⟨fun h => by rw [h, xp_xp], fun h => by rw [h, xp_xp]⟩

theorem sum_one (p : Prop) [Decidable p] (k : Fin 8) (n : ℕ) : (chunks.map fun k' => if p ∧ k = k' then n else 0).sum = if p then n else 0 := by
  by_cases hp : p
  · simp only [hp, true_and, if_true]
    revert k; intro k; fin_cases k <;> simp [chunks]
  · simp [hp]

theorem owed_bar (d c : Dev nD) : O₀ d (barCell c) () = (if d = xp c then 1 else 0) + (if d = yp c then 1 else 0) := by
  unfold O₀
  simp only [Pi.add_apply, Finsupp.add_apply, owe3_at, owe5_at, tallyAt_apply, bar_ne_dcell, barCell_eq, if_false, and_true,
    List.map_const', List.sum_replicate, smul_zero, zero_add, eq_yp c d, eq_xp c d]

theorem owed_y (d c : Dev nD) (k : Fin 8) : O₀ d (dcell c (.inr (3, k))) () = if d = yp c then Nch else 0 := by
  have h35 (k' : Fin 8) : ((Sum.inr ((3 : Fin 6), k) : KI) = Sum.inr (5, k')) = False := by
    simp only [Sum.inr.injEq, Prod.mk.injEq, eq_iff_iff, iff_false, not_and]; intro h; exact absurd h (by decide)
  have h33 (k' : Fin 8) : ((Sum.inr ((3 : Fin 6), k) : KI) = Sum.inr (3, k')) ↔ k = k' := by simp
  unfold O₀
  simp only [Pi.add_apply, Finsupp.add_apply, owe3_at, owe5_at, tallyAt_apply, (bar_ne_dcell _ _ _).symm, dcell_eq, h35, h33, if_false, and_false, and_true,
    false_and, List.map_const', List.sum_replicate, smul_zero, zero_add, add_zero, sum_one, eq_yp c d]

theorem owed_x (d c : Dev nD) (k : Fin 8) : O₀ d (dcell c (.inr (5, k))) () = if d = xp c then Nch else 0 := by
  have h53 (k' : Fin 8) : ((Sum.inr ((5 : Fin 6), k) : KI) = Sum.inr (3, k')) = False := by
    simp only [Sum.inr.injEq, Prod.mk.injEq, eq_iff_iff, iff_false, not_and]; intro h; exact absurd h (by decide)
  have h55 (k' : Fin 8) : ((Sum.inr ((5 : Fin 6), k) : KI) = Sum.inr (5, k')) ↔ k = k' := by simp
  unfold O₀
  simp only [Pi.add_apply, Finsupp.add_apply, owe3_at, owe5_at, tallyAt_apply, (bar_ne_dcell _ _ _).symm, dcell_eq, h53, h55, if_false, and_false, and_true,
    false_and, List.map_const', List.sum_replicate, smul_zero, zero_add, add_zero, sum_one, eq_xp c d]

/-- The launch credit of a cell, from the sum of what the devices owe it. -/
theorem credit_at (g : GSem nD τ sig) (n : ℕ) (h : ∑ d : Dev nD, O₀ d g () = n) :
    tallyOn g (launchCredit (owing O₀) 0 g) = (tallyAt g () n : CellTallies nD τ sig Unit) := by
  unfold tallyAt; refine congrArg _ (Finsupp.ext fun u => ?_); cases u
  rw [launchCredit_owing, Finsupp.single_eq_same, h]

theorem credit_bar (c : Dev nD) : ∑ d : Dev nD, O₀ d (barCell c) () = 2 := by
  rw [Finset.sum_congr rfl fun d _ => owed_bar d c, Finset.sum_add_distrib, Finset.sum_ite_eq' Finset.univ (xp c) fun _ => 1,
    Finset.sum_ite_eq' Finset.univ (yp c) fun _ => 1, if_pos (Finset.mem_univ _), if_pos (Finset.mem_univ _)]
theorem credit_y (c : Dev nD) (k : Fin 8) : ∑ d : Dev nD, O₀ d (dcell c (.inr (3, k))) () = amt (.inr (3, k)) := by
  rw [Finset.sum_congr rfl fun d _ => owed_y d c k, Finset.sum_ite_eq' Finset.univ (yp c) fun _ => Nch, if_pos (Finset.mem_univ _)]
  unfold amt; dsimp only; rw [if_neg (by decide : ¬ (3 : Fin 6).val < 2)]
theorem credit_x (c : Dev nD) (k : Fin 8) : ∑ d : Dev nD, O₀ d (dcell c (.inr (5, k))) () = amt (.inr (5, k)) := by
  rw [Finset.sum_congr rfl fun d _ => owed_x d c k, Finset.sum_ite_eq' Finset.univ (xp c) fun _ => Nch, if_pos (Finset.mem_univ _)]
  unfold amt; dsimp only; rw [if_neg (by decide : ¬ (5 : Fin 6).val < 2)]

/-- The arrivals' semaphores. -/
def arrEmb : Bool × Fin 8 ↪ SemLoc sig := ⟨fun x => .dma (ksem (.inr (if x.1 then 5 else 3, x.2))), fun x y h => by
  have h := ksem_inj (SemLoc.dma.inj h)
  rcases x with ⟨a, k⟩; rcases y with ⟨b, k'⟩
  simp only [Sum.inr.injEq, Prod.mk.injEq] at h
  obtain ⟨h1, rfl⟩ := h
  cases a <;> cases b <;> first | rfl | (exfalso; simp at h1)⟩

theorem creds (c : Dev nD) : (launchCred O₀ c : sProp 𝕄) ⊢ crs c := by
  unfold launchCred crs
  rw [bigSep_univ_at _ (SemLoc.reg barrier0), credit_at _ _ (credit_bar c)]
  refine sep_mono_right ?_
  refine BIBase.Entails.trans (bigSep_subset (t := Finset.univ.map arrEmb) fun sm h => ?_) (Entails.of_eq ?_)
  · obtain ⟨x, -, rfl⟩ := Finset.mem_map.mp h
    exact Finset.mem_erase.mpr ⟨(show SemLoc.dma (ksem (.inr (if x.1 then 5 else 3, x.2))) ≠ SemLoc.reg barrier0 from nofun), Finset.mem_univ _⟩
  · rw [bigSep_map, bigSep_univ_prod, show (Finset.univ : Finset Bool) = {false, true} by decide, BI.bigSep_insert (by decide), BI.bigSep_singleton]
    unfold fam crK
    rw [bigSep_congr (s := (Finset.univ : Finset (Fin 8))) fun k _ =>
        show (cred (tallyOn ((c : Thread nD τ), arrEmb (false, k)) (launchCredit (owing O₀) 0 ((c : Thread nD τ), arrEmb (false, k)))) : sProp 𝕄)
          = cred (tallyAt (dcell c (.inr (3, k))) () (amt (.inr (3, k)))) from congrArg cred (credit_at _ _ (credit_y c k)),
      bigSep_congr (s := (Finset.univ : Finset (Fin 8))) fun k _ =>
        show (cred (tallyOn ((c : Thread nD τ), arrEmb (true, k)) (launchCredit (owing O₀) 0 ((c : Thread nD τ), arrEmb (true, k)))) : sProp 𝕄)
          = cred (tallyAt (dcell c (.inr (5, k))) () (amt (.inr (5, k)))) from congrArg cred (credit_at _ _ (credit_x c k))]
    rfl

/-! ## The run -/

theorem unpair {Φ Ψ : Dev nD → sProp 𝕄} : bigSep Finset.univ (fun c => iprop(Φ c ∗ Ψ c)) ⊢ iprop(bigSep Finset.univ Φ ∗ bigSep Finset.univ Ψ) :=
  Entails.of_eq (bigSep_sep' _ _ _)
theorem pair {Φ Ψ : Dev nD → sProp 𝕄} : iprop(bigSep Finset.univ Φ ∗ bigSep Finset.univ Ψ) ⊢ bigSep Finset.univ (fun c => iprop(Φ c ∗ Ψ c)) :=
  Entails.of_eq (bigSep_sep' _ _ _).symm

theorem unscoped_eq : ∀ sm : SemLoc sig, sm.isScoped .tc = false → sm = .reg barrier0 := by decide +kernel

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide +kernel, BI.bigSep_singleton]

/-- What a device starts with. -/
abbrev T₀ (c : Dev nD) : sProp 𝕄 := iprop(StableHlo.held (c : Thread nD τ) bufs (V₀ m c) ∗ R m c)

/-- What of that is not the protocol's ghost state. -/
def bundle (c : Dev nD) : sProp 𝕄 :=
  iprop(StableHlo.held (c : Thread nD τ) bufs (V₀ m c) ∗ crs c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

/-- The launch deals every device what it starts with. -/
theorem init :
    iprop((bigSep Finset.univ fun c : Dev nD => iprop(unscopedBufs c (fun b => m ((c : Thread nD τ).loc b)) ∗ unscopedSems0 c
          ∗ owes (c : Thread nD τ) (O₀ c) ∅ ∗ launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from unscoped_held c (V₀ m c),
      unscopedSems0_eq]
    unfold bundle
    iintro ⟨Hh, Hus, HO, Hcr, Hp, HG⟩
    isplitl [Hh Hcr HO Hp]
    · isplitl [Hh]; · iexact Hh
      isplitl [Hcr]; · iapply (creds (F := F) c); iexact Hcr
      isplitl [HO]; · iexact HO
      iexists (ρ c); iexact Hp
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep dmaCells (fun g => (openTok ER g : sProp 𝕄))
      ⊢ bigSep Finset.univ (fun c : Dev nD => bigSep Finset.univ fun i : KI => (openTok ER (dcell c i) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells dmaCells toks)) from Entails.of_eq (bigSep_G (F := F))) $$ HG
  imod (Rounds.fund_launch ER (rd m) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records IV
    isplitr; · iexact Hinv
    iexact Hr
  iapply pair
  isplitr [HB]
  · unfold linear
    iapply pair; isplitl [Htok]; · iapply (toks_around (F := F)) $$ Htok
    iapply pair; isplitl [Hat]; · iapply hat $$ Hat
    iapply hop $$ Hopen
  · iexact HB

set_option backward.isDefEq.respectTransparency.types false in
/-- The run: from any memory with the counters at zero, the program on the four devices terminates, and every final state has
    the arguments unchanged, the result at what the exchange leaves, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = outF c m) ∧ r.2.sem = fun _ => 0) :=
  θ_run_regions_kit_sems (pcfgs (F := F)) adm (pdats m) () cellOf_inj EP defs₀ 𝒱₀ L lv m ρ main (segs m)
    (fun c Q => by rw [main_segs adm (pdats m) () 𝒱₀ L lv (seg m) (reg m) rfl c]; exact BIBase.Entails.refl)
    (by simp only [segs, Seg.pipes_host, Seg.pipes_region, Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v3) = V₂ m c main_v3) ∧ s.sem (barCell c) = 0)
    (hfin := fun c s' => by
      dsimp only [Tₙ]; rw [offs_eq]
      iintro ⟨⟨⟨Ha0, Ha1, -, Ho⟩, Hb⟩, HSI⟩
      icombine HSI Ha0 gives %h0
      icombine HSI Ha1 gives %h1
      icombine HSI Ho gives %ho
      icombine HSI Hb gives %hb
      imodintro
      isplitr
      · ipureintro
        exact ⟨⟨Buf.eq_of_forall_mem_univ h0, Buf.eq_of_forall_mem_univ h1, Buf.eq_of_forall_mem_univ ho⟩, by simpa using hb⟩
      iexact HSI)
    (hQ := fun s h hs => ⟨fun c => by
        obtain ⟨⟨h0, h1, ho⟩, -⟩ := h c
        rw [V₂_ne m c main_arg0 (by decide)] at h0; rw [V₂_ne m c main_arg1 (by decide)] at h1; rw [V₂_out] at ho
        exact ⟨h0.trans (V_main_arg0 m c), h1.trans (V_main_arg1 m c), ho⟩,
      sem_eq_zero hs fun c sm hsm => by
        obtain rfl := unscoped_eq sm hsm
        exact (h c).2⟩)

end Cert.Talk

end
-- ==== Proof.Row.lean ====
/-
  One row of the result over the extended reals: what the kernel computes of it and what the reference does.
-/
module

public import proofs.«01_k».proof.Proof.Gen.KernelIdeal.Skeleton
public import proofs.«01_k».proof.Proof.Gen.ReferenceIdeal.Run
public import Idealize.ShloMosaic.Lib.Pointwise

set_option maxRecDepth 16384

@[expose] public section

noncomputable section

namespace Cert.Talk

open Idealize.ShloMosaic Idealize.ShloMosaic.TcCoe
open scoped BigOperators

/-! ## The scalars -/

/-- The row length, as both programs spell it. -/
def len : EReal := Ideal.ofBits .f32 0x44800000#32
/-- The small number added to the mean square, as both programs spell it. -/
def eps : EReal := Ideal.ofBits .f32 0x358637BD#32

/-- The row length is 1024. -/
theorem len_eq : len = ((1024 : ℝ) : EReal) := by
  unfold len
  simp [Ideal.ofBits, Ideal.ieee, -EReal.coe_mul]
  norm_num

/-- The small number is positive. -/
theorem eps_pos : 0 < eps := by
  unfold eps
  simp [Ideal.ofBits, Ideal.ieee, -EReal.coe_mul]

/-- A square is not negative, at the infinities too. -/
theorem sq_nonneg' (x : EReal) : 0 ≤ x * x := by
  rcases le_total 0 x with h | h
  · exact EReal.mul_nonneg h h
  · exact EReal.mul_nonneg_iff.mpr (.inr ⟨h, h⟩)

/-- The mean square with the small number added. -/
def msq (v : Fin 1024 → EReal) : EReal := Ideal.div (∑ k, v k * v k) len + eps

/-- It is positive. -/
theorem msq_pos (v : Fin 1024 → EReal) : 0 < msq v := by
  have h : 0 ≤ Ideal.div (∑ k, v k * v k) len := by
    rw [len_eq, Ideal.div_coe (by norm_num : (1024 : ℝ) ≠ 0)]
    exact EReal.mul_nonneg (Finset.sum_nonneg fun k _ => sq_nonneg' _) (EReal.coe_nonneg.mpr (by norm_num))
  exact lt_of_lt_of_le eps_pos (le_add_of_nonneg_left h)

/-- Dividing by the root of a positive number is multiplying by its reciprocal root. -/
theorem div_sqrt (a x : EReal) (hx : 0 < x) : Ideal.div a (Ideal.sqrt x) = a * Ideal.rsqrt x := by
  induction x with
  | bot => simp at hx
  | top =>
    rw [show Ideal.sqrt ⊤ = ⊤ from rfl, show Ideal.rsqrt ⊤ = 0 from rfl]
    simp [Ideal.div]
  | coe r =>
    have hr : 0 < r := EReal.coe_pos.mp hx
    have hs : Real.sqrt r ≠ 0 := (Real.sqrt_pos.mpr hr).ne'
    rw [show Ideal.sqrt (r : EReal) = (Real.sqrt r : EReal) from if_neg hr.not_gt,
      show Ideal.rsqrt (r : EReal) = ((Real.sqrt r)⁻¹ : ℝ) from (if_neg hr.not_gt).trans (if_neg hr.ne'), Ideal.div_coe hs, one_div]

/-- Entry `j` of a normalised row: the entry times the reciprocal root of the mean square, times the weight. -/
def nrm (v : Fin 1024 → EReal) (g : EReal) (j : Fin 1024) : EReal := v j * Ideal.rsqrt (msq v) * g

/-! ## The kernel's row -/

open Cert.KernelIdeal Cert.KernelIdeal.Gen in
/-- A finished chunk at row `p`, entry `j`: the normalised row of the sum of the two partial rows. -/
theorem pay14_at (a : Vec Ideal S64x1024 .f32) (b : Vec Ideal S64x1024 .bf16) (g : Vec Ideal S1x1024 .f32) (p : Fin 64) (j : Fin 1024) :
    k0_pay14 a b g (ix2 p j) = nrm (fun k => (a (ix2 p k) : EReal) + b (ix2 p k)) (g (ix2 0 j)) j := by
  pointwise [k0_pay14, nrm, msq, len, eps]

open Cert.KernelIdeal Cert.KernelIdeal.Gen in
/-- The chunk as stored is the chunk as computed; -/
theorem pay16_at (a : Vec Ideal S64x1024 .f32) (b : Vec Ideal S64x1024 .bf16) (g : Vec Ideal S1x1024 .f32) :
    k0_pay16 a b g = k0_pay14 a b g := by
  funext i; idx_vars i; unfold k0_pay16; pointwise

open Cert.KernelIdeal Cert.KernelIdeal.Gen in
/-- so is the chunk as sent; -/
theorem pay15_at (a : Vec Ideal S64x1024 .f32) (b : Vec Ideal S64x1024 .bf16) (g : Vec Ideal S1x1024 .f32) (i : S64x1024.Idx) :
    (k0_pay15 a b g i : EReal) = k0_pay14 a b g i := by
  idx_vars i; unfold k0_pay15; pointwise

open Cert.KernelIdeal Cert.KernelIdeal.Gen in
/-- a chunk received is the chunk sent; -/
theorem pay39_at (b : Vec Ideal S64x1024 .bf16) (i : S64x1024.Idx) : (k0_pay39 b i : EReal) = b i := by
  idx_vars i; pointwise [k0_pay39]

open Cert.KernelIdeal Cert.KernelIdeal.Gen in
/-- and the partial rows handed over are the partial rows. -/
theorem pay1_at (a : Vec Ideal S64x1024 .f32) (i : S64x1024.Idx) : (k0_pay1 a i : EReal) = a i := by
  idx_vars i; pointwise [k0_pay1]

/-! ## The reference's row -/

section Ref

open Cert.ReferenceIdeal Cert.ReferenceIdeal.Gen

/-- The reference's result of its two arguments. -/
def refOut (X : FVec Ideal S2x2048x1024 .f32) (G : FVec Ideal S1024 .f32) : FVec Ideal S2048x1024 .f32 :=
  mulf (Host.divf (Host.reduceAdd X (constant S_ .f32 0x00000000#32) reducesTo_S2x2048x1024_S2048x1024_d0 h_S_)
    (broadcastInDim S2048x1024 ![0, 1] bcast_S2048x1_S2048x1024_0_1 (Host.sqrt (addf (Host.divf
      (broadcastInDim S2048x1 ![0] bcast_S2048_S2048x1_0 (Host.reduceAdd
        (mulf (Host.reduceAdd X (constant S_ .f32 0x00000000#32) reducesTo_S2x2048x1024_S2048x1024_d0 h_S_)
          (Host.reduceAdd X (constant S_ .f32 0x00000000#32) reducesTo_S2x2048x1024_S2048x1024_d0 h_S_))
        (constant S_ .f32 0x00000000#32) reducesTo_S2048x1024_S2048_d1 h_S_))
      (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 G))

/-- The reference's result at row `r`, entry `j`: the normalised row of the sum of the two partial rows. -/
theorem refOut_at (X : FVec Ideal S2x2048x1024 .f32) (G : FVec Ideal S1024 .f32) (r : Fin 2048) (j : Fin 1024) :
    refOut X G (ix2 r j) = nrm (fun k => (X (ix3 0 r k) : EReal) + X (ix3 1 r k)) (G (ix1 j)) j := by
  have h := div_sqrt ((X (ix3 0 r j) : EReal) + X (ix3 1 r j)) _ (msq_pos fun k => (X (ix3 0 r k) : EReal) + X (ix3 1 r k))
  unfold nrm
  rw [← h]
  pointwise [refOut, msq, len, eps]
  simp only [Fin.sum_univ_two]

end Ref

end Cert.Talk

end
-- ==== Proof.Values.lean ====
/-
  The result of each device over the extended reals is its block of the reference's.
-/
module

public import proofs.«01_k».proof.Proof.Run
public import proofs.«01_k».proof.Proof.Row
public import Idealize.ShloMosaic.Lib.Layout

set_option maxRecDepth 16384

@[expose] public section

noncomputable section

namespace Cert.Talk

open Cert.KernelIdeal Cert.KernelIdeal.Gen
open Idealize.ShloMosaic Idealize.ShloMosaic.TcCoe Idealize.ShloMosaic.Pipeline
open Idealize.SL.Sem

section Reads

variable {F : FTy → Type} [FloatOps F]
variable (m : (ℓ : Loc nD τ sig) → Buf (Elt F) ℓ) (c : Dev nD)

/-- Device `c`'s partial sums and weights, as launched. -/
def argP : FVec F S1x2048x1024 .f32 := m ((c : Thread nD τ).loc main_arg0)
def argG : FVec F S1024 .f32 := m ((c : Thread nD τ).loc main_arg1)

/-- The kernel finds the partial sums without their leading unit axis, -/
theorem V_v1 : V m c main_v1 = shapeCast S2048x1024 (argP m c) shapeCasts_S1x2048x1024_S2048x1024 := by
  show StableHlo.after hostOps0 _ (Proc.devRef .tc main_v1) = _
  after_results
  rfl
/-- and the weights as one row. -/
theorem V_v2 : V m c main_v2 = shapeCast S1x1024 (argG m c) shapeCasts_S1024_S1x1024 := by
  show StableHlo.after hostOps0 _ (Proc.devRef .tc main_v2) = _
  after_results
  rfl

/-- The partial sums as the kernel finds them, at row `r`. -/
theorem V_v1_at (r : Fin 2048) (j : Fin 1024) : V m c main_v1 (ix2 r j) = argP m c (ix3 0 r j) := by
  rw [V_v1]
  pointwise

/-- The weights as the body loads them. -/
theorem gam_at (j : Fin 1024) : gam m c (ix2 0 j) = argG m c (ix1 j) := by
  have h : gamB m c = V m c main_v2 :=
    (show (win0_0.blk t0_0).view.read (Elt F) (V m c main_v2) = _ from
      Memref.read_access_unit_zero (Elt F) main_v2
        (show (fun a => (win0_0.index t0_0) a * main_v2.ty.shape.size a) = fun _ => 0 from
          funext fun a => by fin_cases a <;> decide) (fun a => by fin_cases a <;> decide) _)
  unfold gam
  rw [h, V_v2]
  rw [View.readAt_apply]
  show (shapeCast S1x1024 (argG m c) shapeCasts_S1024_S1x1024 : FVec F S1x1024 .f32)
    ((Rect.unit (s := S1x1024) ![0, 0] S1x1024.size inb_S1x1024_S1x1024_0_0).toLoadRect.idx (ix2 0 j)) = _
  pointwise

/-- Chunk `k` of the rows kept, at row `p`: row `p` of the chunk of the partial sums. -/
theorem myC_at (k : Fin 8) (p : Fin 64) (j : Fin 1024) (r : Fin 2048) (hr : r.val = 1024 * (c.val % 2) + 512 * (c.val / 2) + 64 * k.val + p.val) :
    myC m c k (ix2 p j) = argP m c (ix3 0 r j) := by
  rw [← V_v1_at]
  unfold myC myB
  show V m c main_v1 _ = V m c main_v1 (ix2 r j)
  congr 1
  funext a
  apply Fin.ext
  match a with
  | ⟨0, _⟩ => show k0_off1 c 0 + 1 * (64 * k.val + 1 * p.val) = r.val; rw [k0_off1_eq, hr]; show 1024 * (c.val % 2) + 512 * (c.val / 2) + 1 * (64 * k.val + 1 * p.val) = _; omega
  | ⟨1, _⟩ => show k0_off1 c 1 + 1 * (0 + 1 * j.val) = j.val; rw [k0_off1_eq]; show 0 + 1 * (0 + 1 * j.val) = _; omega

/-- Chunk `k` of the rows handed over, at row `p`. -/
theorem peerC_at (k : Fin 8) (p : Fin 64) (j : Fin 1024) (r : Fin 2048)
    (hr : r.val = 512 * (c.val / 2) + 1024 - 1024 * (c.val % 2) + 64 * k.val + p.val) :
    peerC m c k (ix2 p j) = argP m c (ix3 0 r j) := by
  rw [← V_v1_at]
  unfold peerC peerB
  show V m c main_v1 _ = V m c main_v1 (ix2 r j)
  congr 1
  funext a
  apply Fin.ext
  match a with
  | ⟨0, _⟩ => show k0_off2 c 0 + 1 * (64 * k.val + 1 * p.val) = r.val; rw [k0_off2_eq, hr]; show 512 * (c.val / 2) + 1024 - 1024 * (c.val % 2) + 1 * (64 * k.val + 1 * p.val) = _; omega
  | ⟨1, _⟩ => show k0_off2 c 1 + 1 * (0 + 1 * j.val) = j.val; rw [k0_off2_eq]; show 0 + 1 * (0 + 1 * j.val) = _; omega

end Reads

variable (m : (ℓ : Loc nD τ sig) → Buf (Elt Ideal) ℓ) (c : Dev nD)
variable (X : FVec Ideal Cert.ReferenceIdeal.S2x2048x1024 .f32) (G : FVec Ideal Cert.ReferenceIdeal.S1024 .f32)

/-- Every device holds its block of the partial sums and the whole of the weights. -/
def Placed : Prop := ∀ c : Dev nD,
  argP m c = Layout.blockN ⟨3, ![1, 2048, 1024]⟩ ⟨3, ![2, 2048, 1024]⟩ (Layout.meshBlock [2, 2] ![[1], [], []] c) X ∧ argG m c = G

variable {m X G}

theorem yp_val : ∀ c : Dev nD, (yp c).val = 2 * (c.val / 2) + 1 - c.val % 2 := by decide +kernel
theorem xp_val : ∀ c : Dev nD, (xp c).val = c.val % 2 + 2 - 2 * (c.val / 2) := by decide +kernel

theorem meshLin_one : ∀ c : Dev nD, Layout.meshLin [2, 2] c.val [1] = c.val % 2 := by decide

/-- A device's partial sums are the plane its second coordinate names. -/
theorem argP_at (h : Placed m X G) (b : Fin 2) (hb : b.val = c.val % 2) (r : Fin 2048) (j : Fin 1024) :
    argP m c (ix3 0 r j) = X (ix3 b r j) := by
  rw [(h c).1, Layout.blockN_apply]
  congr 1
  funext a
  apply Fin.ext
  match a with
  | ⟨0, _⟩ =>
    show Layout.meshLin [2, 2] c.val [1] * 1 + 0 = b.val
    rw [meshLin_one, hb]; omega
  | ⟨1, _⟩ => show Layout.meshLin [2, 2] c.val [] * 2048 + r.val = r.val; show 0 * 2048 + r.val = r.val; omega
  | ⟨2, _⟩ => show Layout.meshLin [2, 2] c.val [] * 1024 + j.val = j.val; show 0 * 1024 + j.val = j.val; omega

/-- The two neighbours' partial rows add to the sum over the two planes. -/
theorem sum_at (h : Placed m X G) (r : Fin 2048) (j : Fin 1024) :
    (argP m c (ix3 0 r j) : EReal) + argP m (yp c) (ix3 0 r j) = (X (ix3 0 r j) : EReal) + X (ix3 1 r j) := by
  have hc : c.val < 4 := c.isLt
  have hy := yp_val c
  rcases Nat.mod_two_eq_zero_or_one c.val with e | e
  · rw [argP_at c h 0 e.symm, argP_at (yp c) h 1 (by rw [hy]; show 1 = _; omega)]
  · rw [argP_at c h 1 e.symm, argP_at (yp c) h 0 (by rw [hy]; show 0 = _; omega), add_comm]

/-- A finished chunk is the reference's rows it stands for. -/
theorem pay14_ref (h : Placed m X G) (k : Fin 8) (p : Fin 64) (j : Fin 1024) (r : Fin 2048)
    (hr : r.val = 1024 * (c.val % 2) + 512 * (c.val / 2) + 64 * k.val + p.val) :
    k0_pay14 (myC m c k) (sent m (yp c) k) (gam m c) (ix2 p j) = refOut X G (ix2 r j) := by
  have hc : c.val < 4 := c.isLt
  have hy := yp_val c
  rw [pay14_at, refOut_at, gam_at, (h c).2]
  congr 1
  funext q
  rw [← sum_at c h r q, myC_at m c k p q r hr]
  congr 1
  unfold sent
  rw [pay1_at]
  exact peerC_at m (yp c) k p q r (by rw [hr, hy]; omega)

/-- Each device's result is its block of the reference's result. -/
theorem outF_ref (h : Placed m X G) :
    outF c m = Layout.blockN ⟨2, ![1024, 1024]⟩ ⟨2, ![2048, 1024]⟩ (Layout.meshBlock [2, 2] ![[1], []] c) (refOut X G) := by
  refine funext fun i : S1024x1024.Idx => ?_
  have hc : c.val < 4 := c.isLt
  have hi : (i 0).val < 1024 := (i 0).isLt
  have hx := xp_val c
  let r : Fin 2048 := ⟨1024 * (c.val % 2) + (i 0).val, by omega⟩
  let j : Fin 1024 := i 1
  have e : inCh i = ix2 ⟨(i 0).val % 64, by omega⟩ j := funext fun a => by
    match a with
    | ⟨0, _⟩ => rfl
    | ⟨1, _⟩ => rfl
  refine Eq.trans (b := refOut X G (ix2 r j)) ?_ ?_
  rotate_left
  · rw [Layout.blockN_apply]
    congr 1
    funext a
    apply Fin.ext
    match a with
    | ⟨0, _⟩ =>
      show 1024 * (c.val % 2) + (i 0).val = Layout.meshLin [2, 2] c.val [1] * 1024 + (i 0).val
      rw [meshLin_one]; omega
    | ⟨1, _⟩ => show (i 1).val = 0 * 1024 + (i 1).val; omega
  unfold outF
  rw [e]
  split
  · rename_i hh
    unfold N32
    rw [pay16_at]
    exact pay14_ref c h _ _ _ r (by show 1024 * (c.val % 2) + (i 0).val = 1024 * (c.val % 2) + 512 * (c.val / 2) + 64 * ((i 0).val % 512 / 64) + (i 0).val % 64; omega)
  · rename_i hh
    unfold W32 N16
    refine (pay39_at _ _).trans ((pay15_at _ _ _ _).trans ?_)
    exact pay14_ref (xp c) h _ _ _ r (by
      rw [hx]
      show 1024 * (c.val % 2) + (i 0).val = 1024 * ((c.val % 2 + 2 - 2 * (c.val / 2)) % 2) + 512 * ((c.val % 2 + 2 - 2 * (c.val / 2)) / 2) + 64 * ((i 0).val % 512 / 64) + (i 0).val % 64
      omega)

end Cert.Talk

end
-- ==== Proof.lean ====
/- The five claims about the kernel and its reference, from the run of the kernel (Proof/Run.lean)
   and what its result holds (Proof/Values.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Values
public import Idealize.ShloMosaic.Adequacy
public import Idealize.ShloMosaic.Init
public import proofs.«01_k».proof.Proof.Gen.ReferenceIdeal.Run

@[expose] public section

noncomputable section

namespace Cert.Proof

open Idealize.ShloMosaic Idealize.SL.Sem

section Kernel

open Cert.KernelIdeal Idealize.ShloMosaic.TcCoe

/-- Every run of the kernel, over any float values, ends with its arguments unchanged and every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun _ h => ⟨fun c => ⟨(h.1 c).1, (h.1 c).2.1⟩, h.2⟩) (Cert.Talk.run_main m ρ)

end Kernel

/-- So it is over the extended reals, -/
theorem frame_kernelIdeal : Cert.quiescent_KernelIdeal := fun m ρ _ => frame_any (F := Ideal) m ρ

/-- The kernel's functions are the idealized kernel's, text for text; -/
theorem defs₀_eq : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl
/-- so is the whole table. -/
theorem defs_eq : Cert.Kernel.defs (F := Bits) = Cert.KernelIdeal.defs (F := Bits) :=
  congrArg (Pipeline.defs (Cert.KernelIdeal.pcfgs (F := Bits))) defs₀_eq

/-- So the kernel's frame holds over the bit patterns. -/
theorem frame_kernel : Cert.quiescent_Kernel := by
  intro m ρ _
  have h := frame_any (F := Bits) m ρ
  rw [← defs_eq] at h
  exact h

/-- Every run of the reference ends with its arguments unchanged; it declares no counter. -/
theorem frame_reference : Cert.quiescent_ReferenceIdeal := fun m ρ _ =>
  (θ_run Cert.ReferenceIdeal.defs _ _).mono (fun _ h => ⟨fun c => (h c).2, funext fun g => nomatch g.2⟩)
    (Cert.ReferenceIdeal.Value.run (F := Ideal) m ρ)

/-- The two programs the idealization compares are one text. -/
theorem preserves : Cert.preserves_Kernel_KernelIdeal := trivial

/-- The reference's result, as its run leaves it. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v13)
          = Cert.Talk.refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  Cert.ReferenceIdeal.Value.run (F := Ideal) m ρ

/-- The idealized kernel leaves on every device its block of what the reference computes. -/
theorem algebraic : Cert.algebraic_KernelIdeal_ReferenceIdeal := by
  intro m ρ m' ρ' _ hin
  have hp : Cert.Talk.Placed m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) := hin
  refine ⟨Cert.Talk.refOut _ _, ?_, (θ_run Cert.ReferenceIdeal.defs _ _).mono (fun _ h => h 0) (run_reference m' ρ')⟩
  exact (θ_run Cert.KernelIdeal.defs _ _).mono
    (fun _ h c => ⟨(h.1 c).2.2.trans (Cert.Talk.outF_ref c hp), (h.1 c).1, (h.1 c).2.1⟩) (Cert.Talk.run_main (F := Ideal) m ρ)

/-- All the claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
